-- ==== Defs.lean ====
def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3)
      ∧ r.2.mem ((c.tc : Thread Cert.ProjIn.nD Cert.ProjIn.τ).loc Cert.ProjIn.main_arg4) = m ((c.tc : Thread Cert.ProjIn.nD Cert.ProjIn.τ).loc Cert.ProjIn.main_arg4)
      ∧ r.2.mem ((c.tc : Thread Cert.ProjIn.nD Cert.ProjIn.τ).loc Cert.ProjIn.main_arg5) = m ((c.tc : Thread Cert.ProjIn.nD Cert.ProjIn.τ).loc Cert.ProjIn.main_arg5)
      ∧ r.2.mem ((c.tc : Thread Cert.ProjIn.nD Cert.ProjIn.τ).loc Cert.ProjIn.main_arg6) = m ((c.tc : Thread Cert.ProjIn.nD Cert.ProjIn.τ).loc Cert.ProjIn.main_arg6)
      ∧ r.2.mem ((c.tc : Thread Cert.ProjIn.nD Cert.ProjIn.τ).loc Cert.ProjIn.main_arg7) = m ((c.tc : Thread Cert.ProjIn.nD Cert.ProjIn.τ).loc Cert.ProjIn.main_arg7))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
      ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
      ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6)
      ∧ r.2.mem ((c.tc : Thread Cert.ProjInIdeal.nD Cert.ProjInIdeal.τ).loc Cert.ProjInIdeal.main_arg7) = m ((c.tc : Thread Cert.ProjInIdeal.nD Cert.ProjInIdeal.τ).loc Cert.ProjInIdeal.main_arg7))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2)
      ∧ r.2.mem ((c.tc : Thread Cert.ProjInRefIdeal.nD Cert.ProjInRefIdeal.τ).loc Cert.ProjInRefIdeal.main_arg3) = m ((c.tc : Thread Cert.ProjInRefIdeal.nD Cert.ProjInRefIdeal.τ).loc Cert.ProjInRefIdeal.main_arg3)
      ∧ r.2.mem ((c.tc : Thread Cert.ProjInRefIdeal.nD Cert.ProjInRefIdeal.τ).loc Cert.ProjInRefIdeal.main_arg4) = m ((c.tc : Thread Cert.ProjInRefIdeal.nD Cert.ProjInRefIdeal.τ).loc Cert.ProjInRefIdeal.main_arg4)
      ∧ r.2.mem ((c.tc : Thread Cert.ProjInRefIdeal.nD Cert.ProjInRefIdeal.τ).loc Cert.ProjInRefIdeal.main_arg5) = m ((c.tc : Thread Cert.ProjInRefIdeal.nD Cert.ProjInRefIdeal.τ).loc Cert.ProjInRefIdeal.main_arg5)
      ∧ r.2.mem ((c.tc : Thread Cert.ProjInRefIdeal.nD Cert.ProjInRefIdeal.τ).loc Cert.ProjInRefIdeal.main_arg6) = m ((c.tc : Thread Cert.ProjInRefIdeal.nD Cert.ProjInRefIdeal.τ).loc Cert.ProjInRefIdeal.main_arg6)
      ∧ r.2.mem ((c.tc : Thread Cert.ProjInRefIdeal.nD Cert.ProjInRefIdeal.τ).loc Cert.ProjInRefIdeal.main_arg7) = m ((c.tc : Thread Cert.ProjInRefIdeal.nD Cert.ProjInRefIdeal.τ).loc Cert.ProjInRefIdeal.main_arg7))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3)
      ∧ r.2.mem ((c.tc : Thread Cert.ProjOut.nD Cert.ProjOut.τ).loc Cert.ProjOut.main_arg4) = m ((c.tc : Thread Cert.ProjOut.nD Cert.ProjOut.τ).loc Cert.ProjOut.main_arg4))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
      ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2)
      ∧ r.2.mem ((c.tc : Thread Cert.ProjOutRefIdeal.nD Cert.ProjOutRefIdeal.τ).loc Cert.ProjOutRefIdeal.main_arg3) = m ((c.tc : Thread Cert.ProjOutRefIdeal.nD Cert.ProjOutRefIdeal.τ).loc Cert.ProjOutRefIdeal.main_arg3)
      ∧ r.2.mem ((c.tc : Thread Cert.ProjOutRefIdeal.nD Cert.ProjOutRefIdeal.τ).loc Cert.ProjOutRefIdeal.main_arg4) = m ((c.tc : Thread Cert.ProjOutRefIdeal.nD Cert.ProjOutRefIdeal.τ).loc Cert.ProjOutRefIdeal.main_arg4))
      ∧ r.2.sem = fun _ => 0)

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)
      ∧ m' ((c.tc : Thread Cert.ProjInRefIdeal.nD Cert.ProjInRefIdeal.τ).loc Cert.ProjInRefIdeal.main_arg3) = m ((c.tc : Thread Cert.ProjInIdeal.nD Cert.ProjInIdeal.τ).loc Cert.ProjInIdeal.main_arg3)
      ∧ m' ((c.tc : Thread Cert.ProjInRefIdeal.nD Cert.ProjInRefIdeal.τ).loc Cert.ProjInRefIdeal.main_arg4) = m ((c.tc : Thread Cert.ProjInIdeal.nD Cert.ProjInIdeal.τ).loc Cert.ProjInIdeal.main_arg4)
      ∧ m' ((c.tc : Thread Cert.ProjInRefIdeal.nD Cert.ProjInRefIdeal.τ).loc Cert.ProjInRefIdeal.main_arg5) = m ((c.tc : Thread Cert.ProjInIdeal.nD Cert.ProjInIdeal.τ).loc Cert.ProjInIdeal.main_arg5)
      ∧ m' ((c.tc : Thread Cert.ProjInRefIdeal.nD Cert.ProjInRefIdeal.τ).loc Cert.ProjInRefIdeal.main_arg6) = m ((c.tc : Thread Cert.ProjInIdeal.nD Cert.ProjInIdeal.τ).loc Cert.ProjInIdeal.main_arg6)
      ∧ m' ((c.tc : Thread Cert.ProjInRefIdeal.nD Cert.ProjInRefIdeal.τ).loc Cert.ProjInRefIdeal.main_arg7) = m ((c.tc : Thread Cert.ProjInIdeal.nD Cert.ProjInIdeal.τ).loc Cert.ProjInIdeal.main_arg7)) →
    ∃ (v0 : (c : Dev Cert.ProjInIdeal.nD) → Buf (Elt Ideal) ((c.tc : Thread Cert.ProjInIdeal.nD Cert.ProjInIdeal.τ).loc Cert.ProjInIdeal.main_v4_0)) (v1 : (c : Dev Cert.ProjInIdeal.nD) → Buf (Elt Ideal) ((c.tc : Thread Cert.ProjInIdeal.nD Cert.ProjInIdeal.τ).loc Cert.ProjInIdeal.main_v4_1)) (v2 : (c : Dev Cert.ProjInIdeal.nD) → Buf (Elt Ideal) ((c.tc : Thread Cert.ProjInIdeal.nD Cert.ProjInIdeal.τ).loc Cert.ProjInIdeal.main_v4_2)) (v3 : (c : Dev Cert.ProjInIdeal.nD) → Buf (Elt Ideal) ((c.tc : Thread Cert.ProjInIdeal.nD Cert.ProjInIdeal.τ).loc Cert.ProjInIdeal.main_v4_3)) (v4 : (c : Dev Cert.ProjInIdeal.nD) → Buf (Elt Ideal) ((c.tc : Thread Cert.ProjInIdeal.nD Cert.ProjInIdeal.τ).loc Cert.ProjInIdeal.main_v4_4)) (v5 : (c : Dev Cert.ProjInIdeal.nD) → Buf (Elt Ideal) ((c.tc : Thread Cert.ProjInIdeal.nD Cert.ProjInIdeal.τ).loc Cert.ProjInIdeal.main_v4_5)) (v6 : (c : Dev Cert.ProjInIdeal.nD) → Buf (Elt Ideal) ((c.tc : Thread Cert.ProjInIdeal.nD Cert.ProjInIdeal.τ).loc Cert.ProjInIdeal.main_v4_6)) (v7 : (c : Dev Cert.ProjInIdeal.nD) → Buf (Elt Ideal) ((c.tc : Thread Cert.ProjInIdeal.nD Cert.ProjInIdeal.τ).loc Cert.ProjInIdeal.main_v4_7)) (v8 : (c : Dev Cert.ProjInIdeal.nD) → Buf (Elt Ideal) ((c.tc : Thread Cert.ProjInIdeal.nD Cert.ProjInIdeal.τ).loc Cert.ProjInIdeal.main_v4_8)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v4_0) = v0 c
          ∧ r.2.mem ((c.tc : Thread Cert.ProjInIdeal.nD Cert.ProjInIdeal.τ).loc Cert.ProjInIdeal.main_v4_1) = v1 c
          ∧ r.2.mem ((c.tc : Thread Cert.ProjInIdeal.nD Cert.ProjInIdeal.τ).loc Cert.ProjInIdeal.main_v4_2) = v2 c
          ∧ r.2.mem ((c.tc : Thread Cert.ProjInIdeal.nD Cert.ProjInIdeal.τ).loc Cert.ProjInIdeal.main_v4_3) = v3 c
          ∧ r.2.mem ((c.tc : Thread Cert.ProjInIdeal.nD Cert.ProjInIdeal.τ).loc Cert.ProjInIdeal.main_v4_4) = v4 c
          ∧ r.2.mem ((c.tc : Thread Cert.ProjInIdeal.nD Cert.ProjInIdeal.τ).loc Cert.ProjInIdeal.main_v4_5) = v5 c
          ∧ r.2.mem ((c.tc : Thread Cert.ProjInIdeal.nD Cert.ProjInIdeal.τ).loc Cert.ProjInIdeal.main_v4_6) = v6 c
          ∧ r.2.mem ((c.tc : Thread Cert.ProjInIdeal.nD Cert.ProjInIdeal.τ).loc Cert.ProjInIdeal.main_v4_7) = v7 c
          ∧ r.2.mem ((c.tc : Thread Cert.ProjInIdeal.nD Cert.ProjInIdeal.τ).loc Cert.ProjInIdeal.main_v4_8) = v8 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
          ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
          ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
          ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6)
          ∧ r.2.mem ((c.tc : Thread Cert.ProjInIdeal.nD Cert.ProjInIdeal.τ).loc Cert.ProjInIdeal.main_arg7) = m ((c.tc : Thread Cert.ProjInIdeal.nD Cert.ProjInIdeal.τ).loc Cert.ProjInIdeal.main_arg7))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v5_0) = v0 c
          ∧ r.2.mem ((c.tc : Thread Cert.ProjInRefIdeal.nD Cert.ProjInRefIdeal.τ).loc Cert.ProjInRefIdeal.main_v5_1) = v1 c
          ∧ r.2.mem ((c.tc : Thread Cert.ProjInRefIdeal.nD Cert.ProjInRefIdeal.τ).loc Cert.ProjInRefIdeal.main_v5_2) = v2 c
          ∧ r.2.mem ((c.tc : Thread Cert.ProjInRefIdeal.nD Cert.ProjInRefIdeal.τ).loc Cert.ProjInRefIdeal.main_v5_3) = v3 c
          ∧ r.2.mem ((c.tc : Thread Cert.ProjInRefIdeal.nD Cert.ProjInRefIdeal.τ).loc Cert.ProjInRefIdeal.main_v5_4) = v4 c
          ∧ r.2.mem ((c.tc : Thread Cert.ProjInRefIdeal.nD Cert.ProjInRefIdeal.τ).loc Cert.ProjInRefIdeal.main_v5_5) = v5 c
          ∧ r.2.mem ((c.tc : Thread Cert.ProjInRefIdeal.nD Cert.ProjInRefIdeal.τ).loc Cert.ProjInRefIdeal.main_v5_6) = v6 c
          ∧ r.2.mem ((c.tc : Thread Cert.ProjInRefIdeal.nD Cert.ProjInRefIdeal.τ).loc Cert.ProjInRefIdeal.main_v5_7) = v7 c
          ∧ r.2.mem ((c.tc : Thread Cert.ProjInRefIdeal.nD Cert.ProjInRefIdeal.τ).loc Cert.ProjInRefIdeal.main_v5_8) = v8 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2)
          ∧ r.2.mem ((c.tc : Thread Cert.ProjInRefIdeal.nD Cert.ProjInRefIdeal.τ).loc Cert.ProjInRefIdeal.main_arg3) = m' ((c.tc : Thread Cert.ProjInRefIdeal.nD Cert.ProjInRefIdeal.τ).loc Cert.ProjInRefIdeal.main_arg3)
          ∧ r.2.mem ((c.tc : Thread Cert.ProjInRefIdeal.nD Cert.ProjInRefIdeal.τ).loc Cert.ProjInRefIdeal.main_arg4) = m' ((c.tc : Thread Cert.ProjInRefIdeal.nD Cert.ProjInRefIdeal.τ).loc Cert.ProjInRefIdeal.main_arg4)
          ∧ r.2.mem ((c.tc : Thread Cert.ProjInRefIdeal.nD Cert.ProjInRefIdeal.τ).loc Cert.ProjInRefIdeal.main_arg5) = m' ((c.tc : Thread Cert.ProjInRefIdeal.nD Cert.ProjInRefIdeal.τ).loc Cert.ProjInRefIdeal.main_arg5)
          ∧ r.2.mem ((c.tc : Thread Cert.ProjInRefIdeal.nD Cert.ProjInRefIdeal.τ).loc Cert.ProjInRefIdeal.main_arg6) = m' ((c.tc : Thread Cert.ProjInRefIdeal.nD Cert.ProjInRefIdeal.τ).loc Cert.ProjInRefIdeal.main_arg6)
          ∧ r.2.mem ((c.tc : Thread Cert.ProjInRefIdeal.nD Cert.ProjInRefIdeal.τ).loc Cert.ProjInRefIdeal.main_arg7) = m' ((c.tc : Thread Cert.ProjInRefIdeal.nD Cert.ProjInRefIdeal.τ).loc Cert.ProjInRefIdeal.main_arg7))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)
      ∧ m' ((c.tc : Thread Cert.ProjOutRefIdeal.nD Cert.ProjOutRefIdeal.τ).loc Cert.ProjOutRefIdeal.main_arg4) = m ((c.tc : Thread Cert.ProjOutIdeal.nD Cert.ProjOutIdeal.τ).loc Cert.ProjOutIdeal.main_arg4)) →
    ∃ (v0 : (c : Dev Cert.ProjOutIdeal.nD) → Buf (Elt Ideal) ((c.tc : Thread Cert.ProjOutIdeal.nD Cert.ProjOutIdeal.τ).loc Cert.ProjOutIdeal.main_v2_0)) (v1 : (c : Dev Cert.ProjOutIdeal.nD) → Buf (Elt Ideal) ((c.tc : Thread Cert.ProjOutIdeal.nD Cert.ProjOutIdeal.τ).loc Cert.ProjOutIdeal.main_v2_1)) (v2 : (c : Dev Cert.ProjOutIdeal.nD) → Buf (Elt Ideal) ((c.tc : Thread Cert.ProjOutIdeal.nD Cert.ProjOutIdeal.τ).loc Cert.ProjOutIdeal.main_v2_2)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v2_0) = v0 c
          ∧ r.2.mem ((c.tc : Thread Cert.ProjOutIdeal.nD Cert.ProjOutIdeal.τ).loc Cert.ProjOutIdeal.main_v2_1) = v1 c
          ∧ r.2.mem ((c.tc : Thread Cert.ProjOutIdeal.nD Cert.ProjOutIdeal.τ).loc Cert.ProjOutIdeal.main_v2_2) = v2 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
          ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v4_0) = v0 c
          ∧ r.2.mem ((c.tc : Thread Cert.ProjOutRefIdeal.nD Cert.ProjOutRefIdeal.τ).loc Cert.ProjOutRefIdeal.main_v4_1) = v1 c
          ∧ r.2.mem ((c.tc : Thread Cert.ProjOutRefIdeal.nD Cert.ProjOutRefIdeal.τ).loc Cert.ProjOutRefIdeal.main_v4_2) = v2 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2)
          ∧ r.2.mem ((c.tc : Thread Cert.ProjOutRefIdeal.nD Cert.ProjOutRefIdeal.τ).loc Cert.ProjOutRefIdeal.main_arg3) = m' ((c.tc : Thread Cert.ProjOutRefIdeal.nD Cert.ProjOutRefIdeal.τ).loc Cert.ProjOutRefIdeal.main_arg3)
          ∧ r.2.mem ((c.tc : Thread Cert.ProjOutRefIdeal.nD Cert.ProjOutRefIdeal.τ).loc Cert.ProjOutRefIdeal.main_arg4) = m' ((c.tc : Thread Cert.ProjOutRefIdeal.nD Cert.ProjOutRefIdeal.τ).loc Cert.ProjOutRefIdeal.main_arg4))

def Claim : Prop :=
  ∃ (hProjIn : Cert.ProjIn.Facts) (hProjInIdeal : Cert.ProjInIdeal.Facts) (hProjInRefIdeal : Cert.ProjInRefIdeal.Facts) (hProjOut : Cert.ProjOut.Facts) (hProjOutIdeal : Cert.ProjOutIdeal.Facts) (hProjOutRefIdeal : Cert.ProjOutRefIdeal.Facts),
    quiescent_ProjIn (hProjIn := hProjIn)
    ∧ quiescent_ProjInIdeal (hProjInIdeal := hProjInIdeal)
    ∧ quiescent_ProjInRefIdeal (hProjInRefIdeal := hProjInRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ preserves_ProjIn_ProjInIdeal
    ∧ algebraic_ProjInIdeal_ProjInRefIdeal (hProjInIdeal := hProjInIdeal) (hProjInRefIdeal := hProjInRefIdeal)
    ∧ preserves_ProjOut_ProjOutIdeal
    ∧ algebraic_ProjOutIdeal_ProjOutRefIdeal (hProjOutIdeal := hProjOutIdeal) (hProjOutRefIdeal := hProjOutRefIdeal)
-- ==== ProjIn.lean ====
abbrev S2x512x5376 : Shape := ⟨3, ![2, 512, 5376]⟩
abbrev S5376 : Shape := ⟨1, ![5376]⟩
abbrev S5376x2048 : Shape := ⟨2, ![5376, 2048]⟩
abbrev S2048 : Shape := ⟨1, ![2048]⟩
abbrev S128 : Shape := ⟨1, ![128]⟩
abbrev S2x512x64 : Shape := ⟨3, ![2, 512, 64]⟩
abbrev S1x5376 : Shape := ⟨2, ![1, 5376]⟩
abbrev S1x2048 : Shape := ⟨2, ![1, 2048]⟩
abbrev S1x128 : Shape := ⟨2, ![1, 128]⟩
abbrev S8x1x128 : Shape := ⟨3, ![8, 1, 128]⟩
abbrev S2x8x128x512 : Shape := ⟨4, ![2, 8, 128, 512]⟩
abbrev S2x4x512x128 : Shape := ⟨4, ![2, 4, 512, 128]⟩
abbrev S2x512x4x128 : Shape := ⟨4, ![2, 512, 4, 128]⟩
abbrev S2x512x4 : Shape := ⟨3, ![2, 512, 4]⟩
abbrev S1x128x5376 : Shape := ⟨3, ![1, 128, 5376]⟩
abbrev S1x128x64 : Shape := ⟨3, ![1, 128, 64]⟩
abbrev S1x1x128 : Shape := ⟨3, ![1, 1, 128]⟩
abbrev S1x8x128x128 : Shape := ⟨4, ![1, 8, 128, 128]⟩
abbrev S1x4x128x128 : Shape := ⟨4, ![1, 4, 128, 128]⟩
abbrev S1x128x4x128 : Shape := ⟨4, ![1, 128, 4, 128]⟩
abbrev S1x128x4 : Shape := ⟨3, ![1, 128, 4]⟩
abbrev S128x5376 : Shape := ⟨2, ![128, 5376]⟩
abbrev S128x1 : Shape := ⟨2, ![128, 1]⟩
abbrev S128x128 : Shape := ⟨2, ![128, 128]⟩
abbrev S128x2048 : Shape := ⟨2, ![128, 2048]⟩
abbrev S128x64 : Shape := ⟨2, ![128, 64]⟩
abbrev S1x1x128x128 : Shape := ⟨4, ![1, 1, 128, 128]⟩
abbrev S512x128 : Shape := ⟨2, ![512, 128]⟩
abbrev S128x4x128 : Shape := ⟨3, ![128, 4, 128]⟩
abbrev S128x4 : Shape := ⟨2, ![128, 4]⟩

abbrev nBuf : Space → Nat
  | .hbm => 21
  | .vmem => 29
  | .smem => 0
  | _ => 0

abbrev bufTy : (tb : Table) → Fin (tcTables nBuf tb) → BufTy
  | .hbm, ⟨0, _⟩ => ⟨S2x512x5376, .bf16⟩
  | .hbm, ⟨1, _⟩ => ⟨S5376, .f32⟩
  | .hbm, ⟨2, _⟩ => ⟨S5376x2048, .fp8e4m3⟩
  | .hbm, ⟨3, _⟩ => ⟨S2048, .f32⟩
  | .hbm, ⟨4, _⟩ => ⟨S128, .f32⟩
  | .hbm, ⟨5, _⟩ => ⟨S128, .f32⟩
  | .hbm, ⟨6, _⟩ => ⟨S2x512x64, .f32⟩
  | .hbm, ⟨7, _⟩ => ⟨S2x512x64, .f32⟩
  | .hbm, ⟨8, _⟩ => ⟨S1x5376, .f32⟩
  | .hbm, ⟨9, _⟩ => ⟨S1x2048, .f32⟩
  | .hbm, ⟨10, _⟩ => ⟨S1x128, .f32⟩
  | .hbm, ⟨11, _⟩ => ⟨S1x128, .f32⟩
  | .hbm, ⟨12, _⟩ => ⟨S2x512x5376, .fp8e4m3⟩
  | .hbm, ⟨13, _⟩ => ⟨S8x1x128, .f32⟩
  | .hbm, ⟨14, _⟩ => ⟨S2x8x128x512, .bf16⟩
  | .hbm, ⟨15, _⟩ => ⟨S2x4x512x128, .i8⟩
  | .hbm, ⟨16, _⟩ => ⟨S2x4x512x128, .i8⟩
  | .hbm, ⟨17, _⟩ => ⟨S2x512x4x128, .i8⟩
  | .hbm, ⟨18, _⟩ => ⟨S2x512x4x128, .i8⟩
  | .hbm, ⟨19, _⟩ => ⟨S2x512x4, .f32⟩
  | .hbm, ⟨20, _⟩ => ⟨S2x512x4, .f32⟩
  | .local _ .vmem, ⟨0, _⟩ => ⟨S1x128x5376, .bf16⟩
  | .local _ .vmem, ⟨1, _⟩ => ⟨S1x128x5376, .bf16⟩
  | .local _ .vmem, ⟨2, _⟩ => ⟨S1x5376, .f32⟩
  | .local _ .vmem, ⟨3, _⟩ => ⟨S5376x2048, .fp8e4m3⟩
  | .local _ .vmem, ⟨4, _⟩ => ⟨S1x2048, .f32⟩
  | .local _ .vmem, ⟨5, _⟩ => ⟨S1x128, .f32⟩
  | .local _ .vmem, ⟨6, _⟩ => ⟨S1x128, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S1x128x64, .f32⟩
  | .local _ .vmem, ⟨11, _⟩ => ⟨S1x128x5376, .fp8e4m3⟩
  | .local _ .vmem, ⟨12, _⟩ => ⟨S1x128x5376, .fp8e4m3⟩
  | .local _ .vmem, ⟨13, _⟩ => ⟨S1x1x128, .f32⟩
  | .local _ .vmem, ⟨14, _⟩ => ⟨S1x1x128, .f32⟩
  | .local _ .vmem, ⟨15, _⟩ => ⟨S1x8x128x128, .bf16⟩
  | .local _ .vmem, ⟨16, _⟩ => ⟨S1x8x128x128, .bf16⟩
  | .local _ .vmem, ⟨17, _⟩ => ⟨S1x4x128x128, .i8⟩
  | .local _ .vmem, ⟨18, _⟩ => ⟨S1x4x128x128, .i8⟩
  | .local _ .vmem, ⟨19, _⟩ => ⟨S1x4x128x128, .i8⟩
  | .local _ .vmem, ⟨20, _⟩ => ⟨S1x4x128x128, .i8⟩
  | .local _ .vmem, ⟨21, _⟩ => ⟨S1x128x4x128, .i8⟩
  | .local _ .vmem, ⟨22, _⟩ => ⟨S1x128x4x128, .i8⟩
  | .local _ .vmem, ⟨23, _⟩ => ⟨S1x128x4x128, .i8⟩
  | .local _ .vmem, ⟨24, _⟩ => ⟨S1x128x4x128, .i8⟩
  | .local _ .vmem, ⟨25, _⟩ => ⟨S1x128x4, .f32⟩
  | .local _ .vmem, ⟨26, _⟩ => ⟨S1x128x4, .f32⟩
  | .local _ .vmem, ⟨27, _⟩ => ⟨S1x128x4, .f32⟩
  | .local _ .vmem, ⟨28, _⟩ => ⟨S1x128x4, .f32⟩
  | _, _ => ⟨S2x512x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev main_v4_7 : Ref sig .tc := ⟨.hbm, 19, rfl⟩
abbrev main_v4_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x5376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S5376x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x5376 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128x128 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x4x128 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x4x128 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x4 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x4 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ProjInRefIdeal.lean ====
abbrev S2x512x5376 : Shape := ⟨3, ![2, 512, 5376]⟩
abbrev S5376 : Shape := ⟨1, ![5376]⟩
abbrev S5376x2048 : Shape := ⟨2, ![5376, 2048]⟩
abbrev S2048 : Shape := ⟨1, ![2048]⟩
abbrev S128 : Shape := ⟨1, ![128]⟩
abbrev S2x512x64 : Shape := ⟨3, ![2, 512, 64]⟩
abbrev S1024x5376 : Shape := ⟨2, ![1024, 5376]⟩
abbrev S1x5376 : Shape := ⟨2, ![1, 5376]⟩
abbrev S1x2048 : Shape := ⟨2, ![1, 2048]⟩
abbrev S1x128 : Shape := ⟨2, ![1, 128]⟩
abbrev S8x1x128 : Shape := ⟨3, ![8, 1, 128]⟩
abbrev S2x8x128x512 : Shape := ⟨4, ![2, 8, 128, 512]⟩
abbrev S2x4x512x128 : Shape := ⟨4, ![2, 4, 512, 128]⟩
abbrev S2x512x4x128 : Shape := ⟨4, ![2, 512, 4, 128]⟩
abbrev S2x512x4 : Shape := ⟨3, ![2, 512, 4]⟩
abbrev S1024 : Shape := ⟨1, ![1024]⟩
abbrev S1024x1 : Shape := ⟨2, ![1024, 1]⟩
abbrev S1024x2048 : Shape := ⟨2, ![1024, 2048]⟩
abbrev S2x512x16x128 : Shape := ⟨4, ![2, 512, 16, 128]⟩
abbrev S2x512x8x128 : Shape := ⟨4, ![2, 512, 8, 128]⟩
abbrev S2x512x8 : Shape := ⟨3, ![2, 512, 8]⟩
abbrev S2x512x8x1 : Shape := ⟨4, ![2, 512, 8, 1]⟩
abbrev S1x1x1x128 : Shape := ⟨4, ![1, 1, 1, 128]⟩
abbrev S2x512x8x64 : Shape := ⟨4, ![2, 512, 8, 64]⟩
abbrev S2x512x1x64 : Shape := ⟨4, ![2, 512, 1, 64]⟩
abbrev S2x512x4x1 : Shape := ⟨4, ![2, 512, 4, 1]⟩
abbrev S2x512x4x64 : Shape := ⟨4, ![2, 512, 4, 64]⟩

abbrev nBuf : Space → Nat
  | .hbm => 22
  | .vmem => 17
  | .smem => 0
  | _ => 0

abbrev bufTy : (tb : Table) → Fin (tcTables nBuf tb) → BufTy
  | .hbm, ⟨0, _⟩ => ⟨S2x512x5376, .bf16⟩
  | .hbm, ⟨1, _⟩ => ⟨S5376, .f32⟩
  | .hbm, ⟨2, _⟩ => ⟨S5376x2048, .fp8e4m3⟩
  | .hbm, ⟨3, _⟩ => ⟨S2048, .f32⟩
  | .hbm, ⟨4, _⟩ => ⟨S128, .f32⟩
  | .hbm, ⟨5, _⟩ => ⟨S128, .f32⟩
  | .hbm, ⟨6, _⟩ => ⟨S2x512x64, .f32⟩
  | .hbm, ⟨7, _⟩ => ⟨S2x512x64, .f32⟩
  | .hbm, ⟨8, _⟩ => ⟨S1024x5376, .bf16⟩
  | .hbm, ⟨9, _⟩ => ⟨S1x5376, .f32⟩
  | .hbm, ⟨10, _⟩ => ⟨S1x2048, .f32⟩
  | .hbm, ⟨11, _⟩ => ⟨S1x128, .f32⟩
  | .hbm, ⟨12, _⟩ => ⟨S1x128, .f32⟩
  | .hbm, ⟨13, _⟩ => ⟨S2x512x5376, .fp8e4m3⟩
  | .hbm, ⟨14, _⟩ => ⟨S8x1x128, .f32⟩
  | .hbm, ⟨15, _⟩ => ⟨S2x8x128x512, .bf16⟩
  | .hbm, ⟨16, _⟩ => ⟨S2x4x512x128, .i8⟩
  | .hbm, ⟨17, _⟩ => ⟨S2x4x512x128, .i8⟩
  | .hbm, ⟨18, _⟩ => ⟨S2x512x4x128, .i8⟩
  | .hbm, ⟨19, _⟩ => ⟨S2x512x4x128, .i8⟩
  | .hbm, ⟨20, _⟩ => ⟨S2x512x4, .f32⟩
  | .hbm, ⟨21, _⟩ => ⟨S2x512x4, .f32⟩
  | .local _ .vmem, ⟨0, _⟩ => ⟨S1024x5376, .bf16⟩
  | .local _ .vmem, ⟨1, _⟩ => ⟨S1x5376, .f32⟩
  | .local _ .vmem, ⟨2, _⟩ => ⟨S5376x2048, .fp8e4m3⟩
  | .local _ .vmem, ⟨3, _⟩ => ⟨S1x2048, .f32⟩
  | .local _ .vmem, ⟨4, _⟩ => ⟨S1x128, .f32⟩
  | .local _ .vmem, ⟨5, _⟩ => ⟨S1x128, .f32⟩
  | .local _ .vmem, ⟨6, _⟩ => ⟨S2x512x64, .f32⟩
  | .local _ .vmem, ⟨7, _⟩ => ⟨S2x512x64, .f32⟩
  | .local _ .vmem, ⟨8, _⟩ => ⟨S2x512x5376, .fp8e4m3⟩
  | .local _ .vmem, ⟨9, _⟩ => ⟨S8x1x128, .f32⟩
  | .local _ .vmem, ⟨10, _⟩ => ⟨S2x8x128x512, .bf16⟩
  | .local _ .vmem, ⟨11, _⟩ => ⟨S2x4x512x128, .i8⟩
  | .local _ .vmem, ⟨12, _⟩ => ⟨S2x4x512x128, .i8⟩
  | .local _ .vmem, ⟨13, _⟩ => ⟨S2x512x4x128, .i8⟩
  | .local _ .vmem, ⟨14, _⟩ => ⟨S2x512x4x128, .i8⟩
  | .local _ .vmem, ⟨15, _⟩ => ⟨S2x512x4, .f32⟩
  | .local _ .vmem, ⟨16, _⟩ => ⟨S2x512x4, .f32⟩
  | _, _ => ⟨S2x512x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev main_v5_7 : Ref sig .tc := ⟨.hbm, 20, rfl⟩
abbrev main_v5_8 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S1024x5376 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5376x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512x5376 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8x128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x4x512x128 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x4x512x128 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x512x4x128 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x512x4x128 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x512x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x512x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== ProjOut.lean ====
abbrev S2x512x1024 : Shape := ⟨3, ![2, 512, 1024]⟩
abbrev S1024x5376 : Shape := ⟨2, ![1024, 5376]⟩
abbrev S5376 : Shape := ⟨1, ![5376]⟩
abbrev S2x512x5376 : Shape := ⟨3, ![2, 512, 5376]⟩
abbrev S1x5376 : Shape := ⟨2, ![1, 5376]⟩
abbrev S8x1x128 : Shape := ⟨3, ![8, 1, 128]⟩
abbrev S1x128x1024 : Shape := ⟨3, ![1, 128, 1024]⟩
abbrev S1x128x5376 : Shape := ⟨3, ![1, 128, 5376]⟩
abbrev S1x1x128 : Shape := ⟨3, ![1, 1, 128]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S128x5376 : Shape := ⟨2, ![128, 5376]⟩

abbrev nBuf : Space → Nat
  | .hbm => 10
  | .vmem => 13
  | .smem => 0
  | _ => 0

abbrev bufTy : (tb : Table) → Fin (tcTables nBuf tb) → BufTy
  | .hbm, ⟨0, _⟩ => ⟨S2x512x1024, .f32⟩
  | .hbm, ⟨1, _⟩ => ⟨S1024x5376, .fp8e4m3⟩
  | .hbm, ⟨2, _⟩ => ⟨S5376, .f32⟩
  | .hbm, ⟨3, _⟩ => ⟨S5376, .f32⟩
  | .hbm, ⟨4, _⟩ => ⟨S2x512x5376, .bf16⟩
  | .hbm, ⟨5, _⟩ => ⟨S1x5376, .f32⟩
  | .hbm, ⟨6, _⟩ => ⟨S1x5376, .f32⟩
  | .hbm, ⟨7, _⟩ => ⟨S2x512x5376, .bf16⟩
  | .hbm, ⟨8, _⟩ => ⟨S2x512x1024, .fp8e4m3⟩
  | .hbm, ⟨9, _⟩ => ⟨S8x1x128, .f32⟩
  | .local _ .vmem, ⟨0, _⟩ => ⟨S1x128x1024, .f32⟩
  | .local _ .vmem, ⟨1, _⟩ => ⟨S1x128x1024, .f32⟩
  | .local _ .vmem, ⟨2, _⟩ => ⟨S1024x5376, .fp8e4m3⟩
  | .local _ .vmem, ⟨3, _⟩ => ⟨S1x5376, .f32⟩
  | .local _ .vmem, ⟨4, _⟩ => ⟨S1x5376, .f32⟩
  | .local _ .vmem, ⟨5, _⟩ => ⟨S1x128x5376, .bf16⟩
  | .local _ .vmem, ⟨6, _⟩ => ⟨S1x128x5376, .bf16⟩
  | .local _ .vmem, ⟨7, _⟩ => ⟨S1x128x5376, .bf16⟩
  | .local _ .vmem, ⟨8, _⟩ => ⟨S1x128x5376, .bf16⟩
  | .local _ .vmem, ⟨9, _⟩ => ⟨S1x128x1024, .fp8e4m3⟩
  | .local _ .vmem, ⟨10, _⟩ => ⟨S1x128x1024, .fp8e4m3⟩
  | .local _ .vmem, ⟨11, _⟩ => ⟨S1x1x128, .f32⟩
  | .local _ .vmem, ⟨12, _⟩ => ⟨S1x1x128, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5376 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x5376 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x5376 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x5376 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ProjOutRefIdeal.lean ====
abbrev S2x512x1024 : Shape := ⟨3, ![2, 512, 1024]⟩
abbrev S1024x5376 : Shape := ⟨2, ![1024, 5376]⟩
abbrev S5376 : Shape := ⟨1, ![5376]⟩
abbrev S2x512x5376 : Shape := ⟨3, ![2, 512, 5376]⟩
abbrev S1024x1024 : Shape := ⟨2, ![1024, 1024]⟩
abbrev S1x5376 : Shape := ⟨2, ![1, 5376]⟩
abbrev S8x1x128 : Shape := ⟨3, ![8, 1, 128]⟩
abbrev S1024 : Shape := ⟨1, ![1024]⟩
abbrev S1024x1 : Shape := ⟨2, ![1024, 1]⟩

abbrev nBuf : Space → Nat
  | .hbm => 12
  | .vmem => 8
  | .smem => 0
  | _ => 0

abbrev bufTy : (tb : Table) → Fin (tcTables nBuf tb) → BufTy
  | .hbm, ⟨0, _⟩ => ⟨S2x512x1024, .f32⟩
  | .hbm, ⟨1, _⟩ => ⟨S1024x5376, .fp8e4m3⟩
  | .hbm, ⟨2, _⟩ => ⟨S5376, .f32⟩
  | .hbm, ⟨3, _⟩ => ⟨S5376, .f32⟩
  | .hbm, ⟨4, _⟩ => ⟨S2x512x5376, .bf16⟩
  | .hbm, ⟨5, _⟩ => ⟨S1024x1024, .f32⟩
  | .hbm, ⟨6, _⟩ => ⟨S1x5376, .f32⟩
  | .hbm, ⟨7, _⟩ => ⟨S1x5376, .f32⟩
  | .hbm, ⟨8, _⟩ => ⟨S1024x5376, .bf16⟩
  | .hbm, ⟨9, _⟩ => ⟨S2x512x5376, .bf16⟩
  | .hbm, ⟨10, _⟩ => ⟨S2x512x1024, .fp8e4m3⟩
  | .hbm, ⟨11, _⟩ => ⟨S8x1x128, .f32⟩
  | .local _ .vmem, ⟨0, _⟩ => ⟨S1024x1024, .f32⟩
  | .local _ .vmem, ⟨1, _⟩ => ⟨S1024x5376, .fp8e4m3⟩
  | .local _ .vmem, ⟨2, _⟩ => ⟨S1x5376, .f32⟩
  | .local _ .vmem, ⟨3, _⟩ => ⟨S1x5376, .f32⟩
  | .local _ .vmem, ⟨4, _⟩ => ⟨S1024x5376, .bf16⟩
  | .local _ .vmem, ⟨5, _⟩ => ⟨S2x512x5376, .bf16⟩
  | .local _ .vmem, ⟨6, _⟩ => ⟨S2x512x1024, .fp8e4m3⟩
  | .local _ .vmem, ⟨7, _⟩ => ⟨S8x1x128, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x5376 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5376 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x5376 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Math.lean ====
/-
  The mathematics of the two projections, one row at a time, over the extended reals.

  A row is a function `Fin n → EReal`. Stated here: the largest absolute value of a row, the scale of a symmetric
  quantiser, its codes (an 8-bit float's or an integer's), the root of the mean square, the normalised row, the
  projected row and the rotary embedding. The kernel multiplies by a reciprocal where the reference divides; the two agree
  because neither a scale nor a root of a mean square plus a positive constant is ever zero (`mul_div_one`,
  `scale_ne_zero`, `rms_ne_zero`).
-/
module

public import Idealize.ShloMosaic.Lib.Pointwise
public import Idealize.ShloMosaic.Lib.IdealHost

@[expose] public section

noncomputable section

open Idealize.ShloMosaic

namespace Cert.Rows

/-- An index of three axes is the one with the same coordinates. -/
theorem eq_ix3_of {n0 n1 n2 : ℕ} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  rw [eq_ix3 j]
  congr 1 <;> exact Fin.ext (by assumption)

/-- Absolute value, as the larger of a value and its negation. -/
abbrev absE (x : EReal) : EReal := FloatOps.absf (F := Ideal) (φ := .f32) x

theorem absE_nonneg (x : EReal) : 0 ≤ absE x := by
  show 0 ≤ max x (-x)
  rcases le_total 0 x with h | h
  · exact le_max_of_le_left h
  · exact le_max_of_le_right (EReal.neg_nonneg.mpr h)

/-- The largest absolute value of a row, from minus infinity. -/
def absmax {n : ℕ} (v : Fin n → EReal) : EReal :=
  Finset.fold max (Ideal.ofBits FTy.f32 0xFF800000#32) (fun k => absE (v k)) Finset.univ

theorem absmax_nonneg {n : ℕ} [NeZero n] (v : Fin n → EReal) : 0 ≤ absmax v :=
  Finset.le_fold_max (c := (0 : EReal)) |>.mpr (Or.inr ⟨0, Finset.mem_univ _, absE_nonneg _⟩)

/-- The quantiser's scale: the largest absolute value over the largest code, or one for a row of zeros. -/
def scale {n : ℕ} (top : EReal) (v : Fin n → EReal) : EReal :=
  if absmax v = 0 then 1 else Ideal.div (absmax v) top

/-- A quotient of a nonzero nonnegative value by a finite positive number is not zero. -/
theorem div_ne_zero_of {a : EReal} (r : ℝ) (hr : 0 < r) (ha : 0 ≤ a) (h : a ≠ 0) : Ideal.div a (r : EReal) ≠ 0 := by
  have hr0 : (r : EReal) ≠ 0 := by exact_mod_cast hr.ne'
  unfold Ideal.div
  rw [if_neg hr0, ← EReal.coe_inv]
  intro h0
  rcases mul_eq_zero.mp h0 with h1 | h1
  · exact h h1
  · exact (inv_ne_zero hr.ne') (by exact_mod_cast h1)

theorem scale_ne_zero {n : ℕ} [NeZero n] {top : EReal} (r : ℝ) (ht : top = (r : EReal)) (hr : 0 < r) (v : Fin n → EReal) :
    scale top v ≠ 0 := by
  unfold scale
  split_ifs with h
  · exact one_ne_zero
  · rw [ht]; exact div_ne_zero_of r hr (absmax_nonneg v) h

/-- Multiplying by the reciprocal of a nonzero value is dividing by it. -/
theorem mul_div_one {r : EReal} (h : r ≠ 0) (x : EReal) : x * Ideal.div 1 r = Ideal.div x r := by
  unfold Ideal.div
  rw [if_neg h, if_neg h, one_mul]

/-- The largest 8-bit float code (448), its negation, and the largest integer code (127), its negation. -/
abbrev top8 : EReal := Ideal.ofBits FTy.f32 0x43E00000#32
abbrev bot8 : EReal := Ideal.ofBits FTy.f32 0xC3E00000#32
abbrev topI : EReal := Ideal.ofBits FTy.f32 0x42FE0000#32
abbrev botI : EReal := Ideal.ofBits FTy.f32 0xC2FE0000#32
/-- The constant added to a mean square, and the two row lengths as floats. -/
abbrev epsE : EReal := Ideal.ofBits FTy.f32 0x358637BD#32
abbrev wide : EReal := Ideal.ofBits FTy.f32 0x45A80000#32
abbrev narrow : EReal := Ideal.ofBits FTy.f32 0x43000000#32

theorem top8_eq : top8 = ((448 : ℝ) : EReal) := by
  simp [top8, Ideal.ofBits, Ideal.ieee]; norm_cast; norm_num
theorem topI_eq : topI = ((127 : ℝ) : EReal) := by
  simp [topI, Ideal.ofBits, Ideal.ieee]; norm_cast; norm_num
theorem botI_eq : botI = ((-127 : ℝ) : EReal) := by
  simp [botI, Ideal.ofBits, Ideal.ieee]; norm_cast; norm_num
theorem wide_eq : wide = ((5376 : ℝ) : EReal) := by
  simp [wide, Ideal.ofBits, Ideal.ieee]; norm_cast; norm_num
theorem narrow_eq : narrow = ((128 : ℝ) : EReal) := by
  simp [narrow, Ideal.ofBits, Ideal.ieee]; norm_cast; norm_num
theorem epsE_pos : 0 < epsE := by
  simp [epsE, Ideal.ofBits, Ideal.ieee]; norm_cast; norm_num

theorem scale8_ne_zero {n : ℕ} [NeZero n] (v : Fin n → EReal) : scale top8 v ≠ 0 :=
  scale_ne_zero 448 top8_eq (by norm_num) v
theorem scaleI_ne_zero {n : ℕ} [NeZero n] (v : Fin n → EReal) : scale topI v ≠ 0 :=
  scale_ne_zero 127 topI_eq (by norm_num) v

/-- The 8-bit float codes of a row. -/
def code8 {n : ℕ} (v : Fin n → EReal) (k : Fin n) : EReal :=
  min top8 (max bot8 (Ideal.div (v k) (scale top8 v)))

/-- The integer codes of a row, still as numbers: divided by the scale, rounded to even, clipped. -/
def codeI {n : ℕ} (v : Fin n → EReal) (k : Fin n) : EReal :=
  min topI (max botI (Ideal.liftRound Ideal.roundHalfEven (Ideal.div (v k) (scale topI v))))

/-- The root of a row's mean square plus the small constant. -/
def rms {n : ℕ} (cnt : EReal) (v : Fin n → EReal) : EReal :=
  Ideal.sqrt (Ideal.div (∑ k, v k * v k) cnt + epsE)

theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

theorem sqrt_ne_zero_of_pos {x : EReal} (h : 0 < x) : Ideal.sqrt x ≠ 0 := by
  induction x with
  | bot => simp at h
  | top => exact EReal.top_ne_zero
  | coe r =>
    have hr : 0 < r := by exact_mod_cast h
    show (if r < 0 then (⊥ : EReal) else (Real.sqrt r : EReal)) ≠ 0
    rw [if_neg (not_lt.mpr hr.le)]
    exact_mod_cast (Real.sqrt_pos.mpr hr).ne'

theorem rms_ne_zero {n : ℕ} {cnt : EReal} (r : ℝ) (hc : cnt = (r : EReal)) (hr : 0 < r) (v : Fin n → EReal) : rms cnt v ≠ 0 := by
  unfold rms
  apply sqrt_ne_zero_of_pos
  have h0 : (0 : EReal) ≤ ∑ k, v k * v k := Finset.sum_nonneg fun k _ => mul_self_nonneg' (v k)
  have h1 : (0 : EReal) ≤ Ideal.div (∑ k, v k * v k) cnt := by
    rw [hc]
    have hr0 : (r : EReal) ≠ 0 := by exact_mod_cast hr.ne'
    unfold Ideal.div
    rw [if_neg hr0, ← EReal.coe_inv]
    exact mul_nonneg h0 (by exact_mod_cast (inv_pos.mpr hr).le)
  exact lt_of_lt_of_le epsE_pos (le_add_of_nonneg_left h1)

theorem rms_wide_ne_zero {n : ℕ} (v : Fin n → EReal) : rms wide v ≠ 0 := rms_ne_zero 5376 wide_eq (by norm_num) v
theorem rms_narrow_ne_zero {n : ℕ} (v : Fin n → EReal) : rms narrow v ≠ 0 := rms_ne_zero 128 narrow_eq (by norm_num) v

/-- The normalised row: divided by its root mean square, times the gain. -/
def normed {n : ℕ} (cnt : EReal) (v g : Fin n → EReal) (k : Fin n) : EReal :=
  Ideal.div (v k) (rms cnt v) * g k

/-- The projection of a quantised row: the sum of products of codes and weights, times the two scales. -/
def projected {n p : ℕ} (v : Fin n → EReal) (w : Fin n → Fin p → EReal) (s : Fin p → EReal) (j : Fin p) : EReal :=
  (∑ k, code8 v k * w k j) * (scale top8 v * s j)

/-- The rotary embedding of a head of 128 entries. -/
def rope (t : Fin 128 → EReal) (c s : Fin 64 → EReal) (k : Fin 128) : EReal :=
  if h : k.val < 64 then t k * c ⟨k.val, h⟩ - t ⟨k.val + 64, by omega⟩ * s ⟨k.val, h⟩
  else t k * c ⟨k.val - 64, by omega⟩ + t ⟨k.val - 64, by omega⟩ * s ⟨k.val - 64, by omega⟩

/-- One term of a sum picked out by an equality of positions. -/
theorem sum_pick {n : ℕ} (hn : n ≤ 2 ^ 32) (j : Fin n) (f : Fin n → EReal) :
    (∑ k : Fin n, Scalar.select (IntOp.cmpi CmpIPredicate.eq (BitVec.ofNat 32 k.val) (BitVec.ofNat 32 j.val)) (f k) 0) = f j := by
  rw [Finset.sum_eq_single j]
  · simp [Scalar.select, IntOp.cmpi]
  · intro k _ hk
    have : BitVec.ofNat 32 k.val ≠ BitVec.ofNat 32 j.val := by
      intro h
      have h2 := congrArg BitVec.toNat h
      simp only [BitVec.toNat_ofNat] at h2
      rw [Nat.mod_eq_of_lt (by omega), Nat.mod_eq_of_lt (by omega)] at h2
      exact hk (Fin.ext h2)
    have hb : (BitVec.ofNat 32 k.val == BitVec.ofNat 32 j.val) = false := by simpa using this
    simp [Scalar.select, IntOp.cmpi, hb]
  · intro h; exact absurd (Finset.mem_univ j) h

end Cert.Rows

end
-- ==== Proof.OutKernel.lean ====
/-
  The output projection's kernel, one block of 128 rows at a time: every payload of its body read at an index, as the row
  functions of `Math.lean`. The block's attention rows are quantised (scale and codes), multiplied into the weights,
  rescaled, normalised over the row and added to the block of `x`.
-/
module

public import proofs.«01_k».proof.Proof.Gen.ProjOutIdeal.Skeleton
public import proofs.«01_k».proof.Proof.Math

@[expose] public section

set_option maxRecDepth 16384

noncomputable section

open Idealize.ShloMosaic Idealize.ShloMosaic.TcCoe Idealize.SL.Sem

namespace Cert.ProjOutIdeal.Rows

open Cert.ProjOutIdeal Cert.ProjOutIdeal.Gen Cert.Rows

/-- Row `r` of the block of attention rows. -/
abbrev arow (x0 : Vec Ideal S1x128x1024 .f32) (r : Fin 128) : Fin 1024 → EReal := fun k => x0 (ix3 0 r k)

/-- The scale column holds each row's scale. -/
theorem scale_at (x0 : Vec Ideal S1x128x1024 .f32) (j : S128x1.Idx) : k0_pay3 x0 j = scale top8 (arow x0 (j 0)) := by
  pointwise [k0_pay3, k0_pay2]
  rfl

/-- The codes are each row's codes. -/
theorem codes_at (x0 : Vec Ideal S1x128x1024 .f32) (j : S128x1024.Idx) : k0_pay4 x0 j = code8 (arow x0 (j 0)) (j 1) := by
  pointwise [k0_pay4, k0_pay2]
  rw [scale_at, mul_div_one (scale8_ne_zero _)]
  rfl

/-- The stored codes: the same, with the leading axis of one back. -/
theorem stored_codes_at (x0 : Vec Ideal S1x128x1024 .f32) (j : S1x128x1024.Idx) :
    k0_pay5 x0 j = code8 (arow x0 (j 1)) (j 2) := by
  pointwise [k0_pay5]
  exact codes_at x0 _

/-- The stored scales: the column turned into a row, by a sum with one nonzero term. -/
theorem stored_scales_at (x0 : Vec Ideal S1x128x1024 .f32) (j : S1x1x128.Idx) :
    k0_pay6 x0 j = scale top8 (arow x0 (j 2)) := by
  pointwise [k0_pay6]
  refine (sum_pick (by show 128 ≤ 2 ^ 32; norm_num) (j 2) fun k => k0_pay3 x0 (ix2 k 0)).trans ?_
  exact scale_at x0 _

/-- The stored rows: `x` plus the normalised projection of the quantised attention row. -/
theorem stored_out_at (x0 : Vec Ideal S1x128x1024 .f32) (w : Vec Ideal S1024x5376 .fp8e4m3) (s g : Vec Ideal S1x5376 .f32)
    (x : Vec Ideal S1x128x5376 .bf16) (j : S1x128x5376.Idx) :
    k0_pay1 (k0_pay3 x0) (k0_pay4 x0) w s g x j
      = x j + normed wide (projected (arow x0 (j 1)) (fun k c => w (ix2 k c)) (fun c => s (ix2 0 c)))
          (fun c => g (ix2 0 c)) (j 2) := by
  pointwise [k0_pay1]
  simp only [scale_at, codes_at]
  show _ = x j + Ideal.div _ (rms wide _) * _
  rw [← mul_div_one (rms_wide_ne_zero _)]
  rfl

end Cert.ProjOutIdeal.Rows

end
-- ==== Proof.OutSpec.lean ====
/-
  What the output projection computes, as functions of its five arguments: the attention output `a` (2 x 512 rows of
  1024), the weights `w`, the weights' scales `s`, the gain `g` and the residual `x`. The kernel's arrays and the reference's
  are each shown to be these.
-/
module

public import proofs.«01_k».proof.Proof.Math

@[expose] public section

noncomputable section

open Idealize.ShloMosaic

namespace Cert.Rows

/-- Row `r` of 1024 rows, `512` to a batch. -/
abbrev flatRow {n : ℕ} (a : (⟨3, ![2, 512, n]⟩ : Shape).Idx → EReal) (r : ℕ) (h : r < 1024) : Fin n → EReal :=
  fun k => a (ix3 ⟨r / 512, by omega⟩ ⟨r % 512, by omega⟩ k)

/-- The flat row of batch `b`'s row `s` is that row. -/
theorem flatRow_mul_add {n : ℕ} (a : (⟨3, ![2, 512, n]⟩ : Shape).Idx → EReal) (b : Fin 2) (s : Fin 512) (h : b.val * 512 + s.val < 1024) :
    flatRow a (b.val * 512 + s.val) h = fun k => a (ix3 b s k) := by
  funext k
  have h1 : (⟨(b.val * 512 + s.val) / 512, by omega⟩ : Fin 2) = b := Fin.ext (by show (b.val * 512 + s.val) / 512 = b.val; omega)
  have h2 : (⟨(b.val * 512 + s.val) % 512, by omega⟩ : Fin 512) = s := Fin.ext (by show (b.val * 512 + s.val) % 512 = s.val; omega)
  show a (ix3 _ _ k) = _
  rw [h1, h2]

/-- Position `r` of tile `t`, of eight tiles of 128 rows. -/
theorem tile_lt (t : Fin 8) (r : Fin 128) : t.val * 128 + r.val < 1024 := by omega

/-- The codes of the attention rows. -/
def outCodes (a : (⟨3, ![2, 512, 1024]⟩ : Shape).Idx → EReal) : (⟨3, ![2, 512, 1024]⟩ : Shape).Idx → EReal :=
  fun i => code8 (fun k => a (ix3 (i 0) (i 1) k)) (i 2)

/-- The scales of the attention rows, in tiles of 128 rows. -/
def outScales (a : (⟨3, ![2, 512, 1024]⟩ : Shape).Idx → EReal) : (⟨3, ![8, 1, 128]⟩ : Shape).Idx → EReal :=
  fun i => scale top8 (flatRow a ((i 0).val * 128 + (i 2).val) (tile_lt (i 0) (i 2)))

/-- The rows of the result: the residual plus the normalised projection. -/
def outRows (a : (⟨3, ![2, 512, 1024]⟩ : Shape).Idx → EReal) (w : (⟨2, ![1024, 5376]⟩ : Shape).Idx → EReal)
    (s g : (⟨1, ![5376]⟩ : Shape).Idx → EReal) (x : (⟨3, ![2, 512, 5376]⟩ : Shape).Idx → EReal) :
    (⟨3, ![2, 512, 5376]⟩ : Shape).Idx → EReal :=
  fun i => x i + normed wide (projected (fun k => a (ix3 (i 0) (i 1) k)) (fun k c => w (ix2 k c)) (fun c => s (ix1 c)))
    (fun c => g (ix1 c)) (i 2)

end Cert.Rows

end
-- ==== Proof.OutValue.lean ====
/-
  The output projection's kernel: its three result arrays, whole. Grid point `(b, i)` reads rows `128 i … 128 i + 127` of batch
  `b` and writes the same rows of the results, and tile `4 b + i` of the scales; the blocks tile the arrays.
-/
module

public import proofs.«01_k».proof.Proof.Gen.ProjOutIdeal.Value
public import proofs.«01_k».proof.Proof.OutKernel
public import Idealize.ShloMosaic.Lib.Pipeline.ValueKit
public import proofs.«01_k».proof.Proof.OutSpec

@[expose] public section

set_option maxRecDepth 16384

noncomputable section

open Idealize.ShloMosaic Idealize.ShloMosaic.TcCoe Idealize.SL.Sem
open Idealize.ShloMosaic.Pipeline (Dat)

namespace Cert.ProjOutIdeal.Rows

open Cert.ProjOutIdeal Cert.ProjOutIdeal.Gen Cert.Rows

variable (m : (ℓ : Loc nD τ sig) → Buf (Elt Ideal) ℓ) (c : Dev nD)

/-- The arguments as launched. -/
abbrev argA : (⟨3, ![2, 512, 1024]⟩ : Shape).Idx → EReal := m ((c : Thread nD τ).loc main_arg0)
abbrev argW : (⟨2, ![1024, 5376]⟩ : Shape).Idx → EReal := m ((c : Thread nD τ).loc main_arg1)
abbrev argS : (⟨1, ![5376]⟩ : Shape).Idx → EReal := m ((c : Thread nD τ).loc main_arg2)
abbrev argG : (⟨1, ![5376]⟩ : Shape).Idx → EReal := m ((c : Thread nD τ).loc main_arg3)
abbrev argX : (⟨3, ![2, 512, 5376]⟩ : Shape).Idx → EReal := m ((c : Thread nD τ).loc main_arg4)

/-- A row given a leading axis of one. -/
theorem lead_row (v : Vec Ideal S5376 .f32) (i : S1x5376.Idx) : shapeCast S1x5376 v shapeCasts_S5376_S1x5376 i = v (ix1 (i 1)) := by
  pointwise

/-- The weights' scales as the kernel reads them: the argument with a leading axis of one. -/
theorem V_s (i : S1x5376.Idx) : V m c main_v0 i = argS m c (ix1 (i 1)) := by
  have h : V m c main_v0 = shapeCast S1x5376 (m ((c : Thread nD τ).loc main_arg2)) shapeCasts_S5376_S1x5376 := by
    show StableHlo.after hostOps0 _ (Proc.devRef .tc main_v0) = _
    after_results
    rfl
  rw [h]
  exact lead_row _ i

/-- The gain as the kernel reads it. -/
theorem V_g (i : S1x5376.Idx) : V m c main_v1 i = argG m c (ix1 (i 1)) := by
  have h : V m c main_v1 = shapeCast S1x5376 (m ((c : Thread nD τ).loc main_arg3)) shapeCasts_S5376_S1x5376 := by
    show StableHlo.after hostOps0 _ (Proc.devRef .tc main_v1) = _
    after_results
    rfl
  rw [h]
  exact lead_row _ i

/-- Where each window's block stands at a grid point, decided over the eight points. -/
theorem idx_facts : ∀ t : Fin grid0.N,
    (win0_0.index t 0 = win0_6.index t 0 ∧ win0_0.index t 1 = win0_6.index t 1 ∧ win0_0.index t 2 = 0 ∧ win0_6.index t 2 = 0)
    ∧ (win0_0.index t 0 = win0_7.index t 0 / 4 ∧ win0_0.index t 1 = win0_7.index t 0 % 4 ∧ win0_7.index t 1 = 0 ∧ win0_7.index t 2 = 0)
    ∧ (win0_0.index t 0 = win0_5.index t 0 ∧ win0_0.index t 1 = win0_5.index t 1 ∧ win0_5.index t 2 = 0)
    ∧ (win0_4.index t 0 = win0_5.index t 0 ∧ win0_4.index t 1 = win0_5.index t 1 ∧ win0_4.index t 2 = 0)
    ∧ (win0_1.index t 0 = 0 ∧ win0_1.index t 1 = 0 ∧ win0_2.index t 0 = 0 ∧ win0_2.index t 1 = 0 ∧ win0_3.index t 0 = 0 ∧ win0_3.index t 1 = 0) := by
  decide +kernel

theorem hz3 : (![0, 0, 0] : Fin 3 → Nat) = fun _ => 0 := funext fun a => by fin_cases a <;> rfl
theorem hz2 : (![0, 0] : Fin 2 → Nat) = fun _ => 0 := funext fun a => by fin_cases a <;> rfl

/-- The codes' array. -/
theorem final_codes : (dats m 0 c).arrAt 6 cfg0.N = outCodes (argA m c) := by
  refine (dats m 0 c).arrAt_eq_of_covers 6 _ (by decide +kernel) fun t hf y => ?_
  obtain ⟨⟨h0, h1, h2, h3⟩, -⟩ := idx_facts t
  blk_simp
  rw [after0_6]
  frame_out
  rw [stored_codes_at]
  unfold outCodes
  congr 1
  · funext k
    show V m c main_arg0 ((win0_0.blk t).view.emb (ix3 0 (y 1) k)) = _
    rw [V_main_arg0]
    refine congrArg (argA m c) ?_
    blk_ext [h0, h1, h2, h3]
  · apply Fin.ext
    blk_simp [h3]

/-- The scales' array. -/
theorem final_scales : (dats m 0 c).arrAt 7 cfg0.N = outScales (argA m c) := by
  refine (dats m 0 c).arrAt_eq_of_covers 7 _ (by decide +kernel) fun t hf y => ?_
  obtain ⟨⟨-, -, h2, -⟩, ⟨h0, h1, h3, h4⟩, -⟩ := idx_facts t
  blk_simp
  rw [after0_7]
  frame_out
  rw [stored_scales_at]
  have hrow : arow (iblk m c 0 t) (y 2) = flatRow (argA m c) ((((win0_7.blk t).view.emb y 0 : Fin 8) : ℕ) * 128 + (((win0_7.blk t).view.emb y 2 : Fin 128) : ℕ))
      (tile_lt _ _) := by
    funext k
    show V m c main_arg0 ((win0_0.blk t).view.emb (ix3 0 (y 2) k)) = _
    rw [V_main_arg0]
    refine congrArg (argA m c) (eq_ix3_of _ _ _ _ ?_ ?_ ?_)
    · blk_simp [h0, h1, h3, h4]
      idx_bounds y
      show _ = (_ / 512 : ℕ)
      omega
    · blk_simp [h0, h1, h3, h4]
      idx_bounds y
      show _ = (_ % 512 : ℕ)
      omega
    · blk_simp [h2, h3, h4]
  rw [hrow]
  rfl

/-- The result's array. -/
theorem final_rows : (dats m 0 c).arrAt 5 cfg0.N = outRows (argA m c) (argW m c) (argS m c) (argG m c) (argX m c) := by
  refine (dats m 0 c).arrAt_eq_of_covers 5 _ (by decide +kernel) fun t hf y => ?_
  obtain ⟨⟨-, -, a2, -⟩, -, ⟨a0, a1, a3⟩, ⟨x0, x1, x2⟩, w0, w1, s0, s1, g0, g1⟩ := idx_facts t
  blk_simp
  rw [after0_5]
  frame_out
  rw [stored_out_at]
  have hx : iblk m c 4 t y = argX m c ((win0_5.blk t).view.emb y) := by
    show V m c main_arg4 ((win0_4.blk t).view.emb y) = _
    rw [V_main_arg4]
    refine congrArg (argX m c) ?_
    blk_ext [x0, x1, x2, a3]
  have ha : arow (iblk m c 0 t) (y 1)
      = fun k => argA m c (ix3 ((win0_5.blk t).view.emb y 0) ((win0_5.blk t).view.emb y 1) k) := by
    funext k
    show V m c main_arg0 ((win0_0.blk t).view.emb (ix3 0 (y 1) k)) = _
    rw [V_main_arg0]
    refine congrArg (argA m c) ?_
    blk_ext [a0, a1, a2, a3]
  have hw : ∀ k j, iblk m c 1 t (ix2 k j) = argW m c (ix2 k j) := fun k j => by
    show V m c main_arg1 ((win0_1.blk t).view.emb (ix2 k j)) = _
    rw [V_main_arg1]
    refine congrArg (argW m c) ?_
    blk_ext [w0, w1]
  have hs : ∀ j, iblk m c 2 t (ix2 0 j) = argS m c (ix1 j) := fun j => by
    show V m c main_v0 ((win0_2.blk t).view.emb (ix2 0 j)) = _
    rw [V_s]
    refine congrArg (argS m c) ?_
    blk_ext [s0, s1]
  have hg : ∀ j, iblk m c 3 t (ix2 0 j) = argG m c (ix1 j) := fun j => by
    show V m c main_v1 ((win0_3.blk t).view.emb (ix2 0 j)) = _
    rw [V_g]
    refine congrArg (argG m c) ?_
    blk_ext [g0, g1]
  have hy : y 2 = (win0_5.blk t).view.emb y 2 := by
    apply Fin.ext
    blk_simp [a3]
  rw [hx, ha]
  simp only [hw, hs, hg]
  rw [hy]
  rfl

/-- The run, read: the three results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2_0) = outRows (argA m c) (argW m c) (argS m c) (argG m c) (argX m c)
      ∧ r.2.mem ((c : Thread nD τ).loc main_v2_1) = outCodes (argA m c)
      ∧ r.2.mem ((c : Thread nD τ).loc main_v2_2) = outScales (argA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_rows m c), (h c).2.1.trans (final_codes m c),
    (h c).2.2.1.trans (final_scales m c), (h c).2.2.2⟩) (Value.run_blocks m ρ)

end Cert.ProjOutIdeal.Rows

end
-- ==== Proof.Ops.lean ====
/-
  The vector expressions that the bodies share, read at an index over any shape: clipping a quotient, the scale column, the
  scaled product, the normalised row. Each is stated for vectors of any shape, so that a body's payload is met by
  unfolding it alone.
-/
module

public import proofs.«01_k».proof.Proof.Math

@[expose] public section

noncomputable section

open Idealize.ShloMosaic

namespace Cert.Rows

variable {S : Shape}

/-- A quotient clipped to `bot … top` and narrowed. -/
theorem clip_div (top bot : EReal) (a b : Vec Ideal S .f32) (h) (j : S.Idx) :
    truncf (F := Ideal) .fp8e4m3 (minimumf (F := Ideal) (φ := .f32) (broadcast S top) (maximumf (F := Ideal) (φ := .f32) (broadcast S bot) (divf (F := Ideal) a b))) h j
      = min top (max bot (Ideal.div (a j) (b j))) := rfl

/-- The scale column of a column of largest absolute values. -/
theorem scale_column (top : BitVec 32) (m : Vec Ideal S .f32) (j : S.Idx) :
    select (cmpf (F := Ideal) .oeq m (broadcast S (Scalar.ofBits .f32 0x00000000#32))) (broadcast S (Scalar.ofBits (F := Ideal) .f32 0x3F800000#32))
        (divf (F := Ideal) m (broadcast S (Scalar.ofBits .f32 top))) j
      = if m j = 0 then 1 else Ideal.div (m j) (Ideal.ofBits .f32 top) := by
  pointwise

/-- A product with a product. -/
theorem mul_mul_apply (a b c : Vec Ideal S .f32) (j : S.Idx) :
    mulf (F := Ideal) (φ := .f32) a (mulf (F := Ideal) (φ := .f32) b c) j = a j * (b j * c j) := rfl

/-- The root of a column of mean squares plus the small constant. -/
theorem rms_column (cnt : EReal) (q : Vec Ideal S .f32) (j : S.Idx) :
    sqrt (F := Ideal) (φ := .f32) (addf (F := Ideal) (divf (F := Ideal) q (broadcast S cnt)) (broadcast S (Scalar.ofBits .f32 0x358637BD#32))) j
      = Ideal.sqrt (Ideal.div (q j) cnt + epsE) := rfl

/-- A residual plus a quotient times a gain. -/
theorem residual_apply (x : Vec Ideal S .bf16) (p q g : Vec Ideal S .f32) (h h') (j : S.Idx) :
    truncf (F := Ideal) .bf16 (addf (F := Ideal) (φ := .f32) (extf (F := Ideal) (φ := .bf16) .f32 x h)
        (mulf (F := Ideal) (φ := .f32) (divf (F := Ideal) (φ := .f32) p q) g)) h' j
      = x j + Ideal.div (p j) (q j) * g j := rfl

end Cert.Rows

end
-- ==== Proof.OutRef.lean ====
/-
  The output projection's reference, on all 1024 rows at once: every payload of its body read at an index, as the row
  functions of `Math.lean`. Row `512 b + s` of the flat arrays is row `s` of batch `b`.
-/
module

public import proofs.«01_k».proof.Proof.Gen.ProjOutRefIdeal.Skeleton
public import proofs.«01_k».proof.Proof.Ops

@[expose] public section

set_option maxRecDepth 16384

noncomputable section

open Idealize.ShloMosaic Idealize.ShloMosaic.TcCoe Idealize.SL.Sem

namespace Cert.ProjOutRefIdeal.Rows

open Cert.ProjOutRefIdeal Cert.ProjOutRefIdeal.Gen Cert.Rows

/-- Row `r` of the attention rows. -/
abbrev arow (x0 : Vec Ideal S1024x1024 .f32) (r : Fin 1024) : Fin 1024 → EReal := fun k => x0 (ix2 r k)

/-- The rows as the body reads them: a reshape to the shape they have. -/
theorem rows_eq (x0 : Vec Ideal S1024x1024 .f32) : k0_pay2 x0 = x0 := shapeCast_self _ _

/-- The column of largest absolute values. -/
theorem absmax_at (x0 : Vec Ideal S1024x1024 .f32) (j : S1024x1.Idx) :
    shapeCast S1024x1 (multiReduction .maximumf [1] S1024 (absf (F := Ideal) x0) 0xFF800000#32 reduces_S1024x1024_S1024 (.inl rfl) rfl)
        shapeCasts_S1024_S1024x1 j = absmax (arow x0 (j 0)) := by
  generalize hR : absmax (arow x0 (j 0)) = R
  pointwise
  exact hR

/-- The scale column holds each row's scale. -/
theorem scale_at (x0 : Vec Ideal S1024x1024 .f32) (j : S1024x1.Idx) : k0_pay3 x0 j = scale top8 (arow x0 (j 0)) := by
  refine (scale_column _ _ j).trans ?_
  rw [rows_eq, absmax_at]
  rfl

/-- A column spread over the row's 1024 positions. -/
theorem spread_at (s : Vec Ideal S1024x1 .f32) (j : S1024x1024.Idx) :
    broadcastTo S1024x1024 s broadcasts_S1024x1_S1024x1024 j = s (ix2 (j 0) 0) := by
  pointwise

/-- The codes are each row's codes. -/
theorem codes_at (x0 : Vec Ideal S1024x1024 .f32) (j : S1024x1024.Idx) : k0_pay4 x0 j = code8 (arow x0 (j 0)) (j 1) := by
  obtain ⟨r, k, rfl⟩ : ∃ r k, j = ix2 r k := ⟨_, _, eq_ix2 j⟩
  refine (clip_div _ _ _ _ _ _).trans ?_
  rw [rows_eq, spread_at, scale_at]
  rfl

/-- The stored codes, by batch and row. -/
theorem stored_codes_at (x0 : Vec Ideal S1024x1024 .f32) (j : S2x512x1024.Idx) :
    k0_pay5 x0 j = code8 (arow x0 ⟨(j 0).val * 512 + (j 1).val, by have := (j 0).isLt; have := (j 1).isLt; simp at *; omega⟩) (j 2) := by
  pointwise [k0_pay5]
  exact codes_at x0 _

/-- The stored scales, by tile of 128 rows. -/
theorem stored_scales_at (x0 : Vec Ideal S1024x1024 .f32) (j : S8x1x128.Idx) :
    k0_pay6 x0 j = scale top8 (arow x0 ⟨(j 0).val * 128 + (j 2).val, by have := (j 0).isLt; have := (j 2).isLt; simp at *; omega⟩) := by
  pointwise [k0_pay6]
  exact scale_at x0 _

/-- The product with the weights. -/
theorem product_at (a : Vec Ideal S1024x1024 .fp8e4m3) (w : Vec Ideal S1024x5376 .fp8e4m3) (j : S1024x5376.Idx) :
    matmul (F := Ideal) (φ₁ := .fp8e4m3) (φ₂ := .fp8e4m3) dot_S1024x1024_S1024x5376_S1024x5376_1_0_0_1_n_n none a w (constant (F := Ideal) S1024x5376 .f32 0x00000000#32) j
      = ∑ k : Fin 1024, a (ix2 (j 0) k) * w (ix2 k (j 1)) := by
  pointwise

/-- A column spread over the row's 5376 positions, and a row over the 1024 rows. -/
theorem wide_column_at (s : Vec Ideal S1024x1 .f32) (j : S1024x5376.Idx) :
    broadcastTo S1024x5376 s broadcasts_S1024x1_S1024x5376 j = s (ix2 (j 0) 0) := by
  pointwise
theorem wide_row_at (s : Vec Ideal S1x5376 .f32) (j : S1024x5376.Idx) :
    broadcastTo S1024x5376 s broadcasts_S1x5376_S1024x5376 j = s (ix2 0 (j 1)) := by
  pointwise

/-- The projected rows. -/
theorem projected_at (x0 : Vec Ideal S1024x1024 .f32) (w : Vec Ideal S1024x5376 .fp8e4m3) (s : Vec Ideal S1x5376 .f32)
    (j : S1024x5376.Idx) :
    k0_pay7 x0 w s j = projected (arow x0 (j 0)) (fun k c => w (ix2 k c)) (fun c => s (ix2 0 c)) (j 1) := by
  refine (mul_mul_apply _ _ _ j).trans ?_
  rw [product_at, wide_column_at, wide_row_at, shapeCast_self, scale_at]
  simp only [codes_at]
  rfl

/-- The column of sums of squares. -/
theorem squares_at (v : Vec Ideal S1024x5376 .f32) (j : S1024x1.Idx) :
    shapeCast S1024x1 (multiReduction .add [1] S1024 (mulf (F := Ideal) v v) 0x00000000#32 reduces_S1024x5376_S1024 (.inl rfl) rfl)
        shapeCasts_S1024_S1024x1 j = ∑ k : Fin 5376, v (ix2 (j 0) k) * v (ix2 (j 0) k) := by
  pointwise

/-- The flat rows by batch and row. -/
theorem by_batch_at (v : Vec Ideal S1024x5376 .bf16) (j : S2x512x5376.Idx) :
    shapeCast S2x512x5376 v shapeCasts_S1024x5376_S2x512x5376 j
      = v (ix2 ⟨(j 0).val * 512 + (j 1).val, by have := (j 0).isLt; have := (j 1).isLt; simp at *; omega⟩ (j 2)) := by
  pointwise

/-- The stored rows: `x` plus the normalised projection of the quantised attention row. -/
theorem stored_out_at (x0 : Vec Ideal S1024x1024 .f32) (w : Vec Ideal S1024x5376 .fp8e4m3) (s g : Vec Ideal S1x5376 .f32)
    (x : Vec Ideal S1024x5376 .bf16) (j : S2x512x5376.Idx) :
    k0_pay1 (k0_pay7 x0 w s) (k0_pay8 g) (k0_pay9 x0 w s) (Scalar.ofBits .f32 0x45A80000#32) x j
      = x (ix2 ⟨(j 0).val * 512 + (j 1).val, by have := (j 0).isLt; have := (j 1).isLt; simp at *; omega⟩ (j 2))
        + normed wide (projected (arow x0 ⟨(j 0).val * 512 + (j 1).val, by have := (j 0).isLt; have := (j 1).isLt; simp at *; omega⟩)
            (fun k c => w (ix2 k c)) (fun c => s (ix2 0 c))) (fun c => g (ix2 0 c)) (j 2) := by
  unfold k0_pay1
  rw [by_batch_at]
  generalize (⟨(j 0).val * 512 + (j 1).val, _⟩ : Fin 1024) = r
  refine (residual_apply _ _ _ _ _ _ _).trans ?_
  rw [shapeCast_self, wide_column_at, wide_row_at, rms_column]
  have hg : k0_pay8 g = g := shapeCast_self _ _
  have hq : k0_pay9 x0 w s (ix2 r 0) = _ := squares_at _ _
  rw [hg]
  show _ + Ideal.div _ (Ideal.sqrt (Ideal.div (k0_pay9 x0 w s (ix2 r 0)) _ + epsE)) * _ = _
  rw [hq]
  simp only [projected_at]
  rfl

end Cert.ProjOutRefIdeal.Rows

end
-- ==== Proof.OutRefValue.lean ====
/-
  The output projection's reference: its three result arrays, whole. It has one grid point, whose blocks are the arrays; it
  reads the attention rows and the residual as 1024 flat rows, row `512 b + s` the row `s` of batch `b`.
-/
module

public import proofs.«01_k».proof.Proof.Gen.ProjOutRefIdeal.Frame
public import proofs.«01_k».proof.Proof.OutRef
public import proofs.«01_k».proof.Proof.OutSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjOutRefIdeal.Rows

open Cert.ProjOutRefIdeal Cert.ProjOutRefIdeal.Gen Cert.Rows

variable (m : (ℓ : Loc nD τ sig) → Buf (Elt Ideal) ℓ) (c : Dev nD)

/-- The arguments as launched. -/
abbrev argA : (⟨3, ![2, 512, 1024]⟩ : Shape).Idx → EReal := m ((c : Thread nD τ).loc main_arg0)
abbrev argW : (⟨2, ![1024, 5376]⟩ : Shape).Idx → EReal := m ((c : Thread nD τ).loc main_arg1)
abbrev argS : (⟨1, ![5376]⟩ : Shape).Idx → EReal := m ((c : Thread nD τ).loc main_arg2)
abbrev argG : (⟨1, ![5376]⟩ : Shape).Idx → EReal := m ((c : Thread nD τ).loc main_arg3)
abbrev argX : (⟨3, ![2, 512, 5376]⟩ : Shape).Idx → EReal := m ((c : Thread nD τ).loc main_arg4)

/-- A row given a leading axis of one. -/
theorem lead_row (v : Vec Ideal S5376 .f32) (i : S1x5376.Idx) : shapeCast S1x5376 v shapeCasts_S5376_S1x5376 i = v (ix1 (i 1)) := by
  pointwise

/-- The attention rows laid flat. -/
theorem flat_rows (v : Vec Ideal S2x512x1024 .f32) (r : Fin 1024) (k : Fin 1024) :
    shapeCast S1024x1024 v shapeCasts_S2x512x1024_S1024x1024 (ix2 r k) = flatRow v r.val r.isLt k := by
  pointwise

/-- The residual's rows laid flat. -/
theorem flat_residual (v : Vec Ideal S2x512x5376 .bf16) (r : Fin 1024) (k : Fin 5376) :
    shapeCast S1024x5376 v shapeCasts_S2x512x5376_S1024x5376 (ix2 r k) = flatRow v r.val r.isLt k := by
  pointwise

theorem V_a (r k : Fin 1024) : V m c main_v0 (ix2 r k) = flatRow (argA m c) r.val r.isLt k := by
  have h : V m c main_v0 = shapeCast S1024x1024 (m ((c : Thread nD τ).loc main_arg0)) shapeCasts_S2x512x1024_S1024x1024 := by
    show StableHlo.after hostOps0 _ (Proc.devRef .tc main_v0) = _
    after_results
    rfl
  rw [h]
  exact flat_rows _ r k

theorem V_s (i : S1x5376.Idx) : V m c main_v1 i = argS m c (ix1 (i 1)) := by
  have h : V m c main_v1 = shapeCast S1x5376 (m ((c : Thread nD τ).loc main_arg2)) shapeCasts_S5376_S1x5376 := by
    show StableHlo.after hostOps0 _ (Proc.devRef .tc main_v1) = _
    after_results
    rfl
  rw [h]
  exact lead_row _ i

theorem V_g (i : S1x5376.Idx) : V m c main_v2 i = argG m c (ix1 (i 1)) := by
  have h : V m c main_v2 = shapeCast S1x5376 (m ((c : Thread nD τ).loc main_arg3)) shapeCasts_S5376_S1x5376 := by
    show StableHlo.after hostOps0 _ (Proc.devRef .tc main_v2) = _
    after_results
    rfl
  rw [h]
  exact lead_row _ i

theorem V_x (r : Fin 1024) (k : Fin 5376) : V m c main_v3 (ix2 r k) = flatRow (argX m c) r.val r.isLt k := by
  have h : V m c main_v3 = shapeCast S1024x5376 (m ((c : Thread nD τ).loc main_arg4)) shapeCasts_S2x512x5376_S1024x5376 := by
    show StableHlo.after hostOps0 _ (Proc.devRef .tc main_v3) = _
    after_results
    rfl
  rw [h]
  exact flat_residual _ r k

/-- Every block stands at zero. -/
theorem idx_facts : ∀ t : Fin grid0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0) := by
  decide +kernel

/-- The attention rows as the body reads them. -/
theorem blk_a (t : Fin cfg0.N) (r : Fin 1024) : arow (iblk m c 0 t) r = flatRow (argA m c) r.val r.isLt := by
  obtain ⟨⟨h0, h1⟩, -⟩ := idx_facts t
  funext k
  show V m c main_v0 ((win0_0.blk t).view.emb (ix2 r k)) = _
  have e : (win0_0.blk t).view.emb (ix2 r k) = ix2 r k := by blk_ext [h0, h1]
  rw [e]
  exact V_a m c r k

theorem blk_w (t : Fin cfg0.N) (k : Fin 1024) (j : Fin 5376) : iblk m c 1 t (ix2 k j) = argW m c (ix2 k j) := by
  obtain ⟨-, ⟨h0, h1⟩, -⟩ := idx_facts t
  show V m c main_arg1 ((win0_1.blk t).view.emb (ix2 k j)) = _
  rw [V_main_arg1]
  refine congrArg (argW m c) ?_
  blk_ext [h0, h1]

theorem blk_s (t : Fin cfg0.N) (j : Fin 5376) : iblk m c 2 t (ix2 0 j) = argS m c (ix1 j) := by
  obtain ⟨-, -, ⟨h0, h1⟩, -⟩ := idx_facts t
  show V m c main_v1 ((win0_2.blk t).view.emb (ix2 0 j)) = _
  rw [V_s]
  refine congrArg (argS m c) ?_
  blk_ext [h0, h1]

theorem blk_g (t : Fin cfg0.N) (j : Fin 5376) : iblk m c 3 t (ix2 0 j) = argG m c (ix1 j) := by
  obtain ⟨-, -, -, ⟨h0, h1⟩, -⟩ := idx_facts t
  show V m c main_v2 ((win0_3.blk t).view.emb (ix2 0 j)) = _
  rw [V_g]
  refine congrArg (argG m c) ?_
  blk_ext [h0, h1]

theorem blk_x (t : Fin cfg0.N) (r : Fin 1024) (k : Fin 5376) : iblk m c 4 t (ix2 r k) = flatRow (argX m c) r.val r.isLt k := by
  obtain ⟨-, -, -, -, ⟨h0, h1⟩, -⟩ := idx_facts t
  show V m c main_v3 ((win0_4.blk t).view.emb (ix2 r k)) = _
  have e : (win0_4.blk t).view.emb (ix2 r k) = ix2 r k := by blk_ext [h0, h1]
  rw [e]
  exact V_x m c r k

/-- The codes' array. -/
theorem final_codes : (dats m 0 c).arrAt 6 cfg0.N = outCodes (argA m c) := by
  refine (dats m 0 c).arrAt_eq_of_covers 6 _ (by decide +kernel) fun t hf y => ?_
  obtain ⟨-, -, -, -, -, -, ⟨h0, h1, h2⟩, -⟩ := idx_facts t
  blk_simp
  rw [after0_6]
  frame_out
  rw [stored_codes_at, blk_a]
  have hy : (win0_6.blk t).view.emb y = y := by blk_ext [h0, h1, h2]
  show _ = outCodes (argA m c) ((win0_6.blk t).view.emb y)
  rw [hy]
  obtain ⟨b, s, k, rfl⟩ : ∃ (b : Fin 2) (s : Fin 512) (k : Fin 1024), y = ix3 b s k := ⟨_, _, _, eq_ix3 y⟩
  show code8 (flatRow (argA m c) (b.val * 512 + s.val) (by omega)) k = _
  rw [flatRow_mul_add]
  rfl

/-- The scales' array. -/
theorem final_scales : (dats m 0 c).arrAt 7 cfg0.N = outScales (argA m c) := by
  refine (dats m 0 c).arrAt_eq_of_covers 7 _ (by decide +kernel) fun t hf y => ?_
  obtain ⟨-, -, -, -, -, -, -, ⟨h0, h1, h2⟩⟩ := idx_facts t
  blk_simp
  rw [after0_7]
  frame_out
  rw [stored_scales_at, blk_a]
  have hy : (win0_7.blk t).view.emb y = y := by blk_ext [h0, h1, h2]
  show _ = outScales (argA m c) ((win0_7.blk t).view.emb y)
  rw [hy]
  rfl

/-- The result's array. -/
theorem final_rows : (dats m 0 c).arrAt 5 cfg0.N = outRows (argA m c) (argW m c) (argS m c) (argG m c) (argX m c) := by
  refine (dats m 0 c).arrAt_eq_of_covers 5 _ (by decide +kernel) fun t hf y => ?_
  obtain ⟨-, -, -, -, -, ⟨h0, h1, h2⟩, -⟩ := idx_facts t
  blk_simp
  rw [after0_5]
  frame_out
  have hy : (win0_5.blk t).view.emb y = y := by blk_ext [h0, h1, h2]
  show _ = outRows _ _ _ _ _ ((win0_5.blk t).view.emb y)
  rw [hy]
  obtain ⟨b, s, k, rfl⟩ : ∃ (b : Fin 2) (s : Fin 512) (k : Fin 5376), y = ix3 b s k := ⟨_, _, _, eq_ix3 y⟩
  rw [stored_out_at, blk_a]
  simp only [blk_w, blk_s, blk_g]
  show HAdd.hAdd (α := EReal) (iblk m c 4 t (ix2 ⟨b.val * 512 + s.val, by omega⟩ k))
    (normed wide (projected (flatRow (argA m c) (b.val * 512 + s.val) (by omega)) _ _) _ k) = _
  rw [blk_x]
  show flatRow (argX m c) (b.val * 512 + s.val) (by omega) k + _ = _
  rw [flatRow_mul_add, flatRow_mul_add]
  rfl

/-- The run, read: the three results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = outRows (argA m c) (argW m c) (argS m c) (argG m c) (argX m c)
      ∧ r.2.mem ((c : Thread nD τ).loc main_v4_1) = outCodes (argA m c)
      ∧ r.2.mem ((c : Thread nD τ).loc main_v4_2) = outScales (argA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final_rows m c), ((h c).1 6).trans (final_codes m c),
    ((h c).1 7).trans (final_scales m c),
    ((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.ProjOutRefIdeal.Rows

end
-- ==== Proof.OutClaim.lean ====
/-
  The claims about the output projection: the frames, what the idealization keeps, and that the kernel and its reference
  end at the same three arrays.
-/
module

public import proofs.«01_k».proof.Defs
public import proofs.«01_k».proof.Proof.Gen.ProjOut.Frame
public import proofs.«01_k».proof.Proof.OutValue
public import proofs.«01_k».proof.Proof.OutRefValue

@[expose] public section

noncomputable section

open Idealize.ShloMosaic Idealize.ShloMosaic.TcCoe Idealize.SL.Sem

namespace Cert.Proof

theorem frame_out : Cert.quiescent_ProjOut := fun m ρ _ => Cert.ProjOut.Gen.frame m ρ
theorem frame_out_ideal : Cert.quiescent_ProjOutIdeal := fun m ρ _ => Cert.ProjOutIdeal.Gen.frame m ρ
theorem frame_out_reference : Cert.quiescent_ProjOutRefIdeal := fun m ρ _ => Cert.ProjOutRefIdeal.Gen.frame m ρ
theorem preserves_out : Cert.preserves_ProjOut_ProjOutIdeal := trivial

/-- Kernel and reference end at the same functions of the same arguments. -/
theorem algebraic_out : Cert.algebraic_ProjOutIdeal_ProjOutRefIdeal := by
  intro m ρ m' ρ' _ hagree
  refine ⟨fun c => Cert.Rows.outRows (Cert.ProjOutIdeal.Rows.argA m c) (Cert.ProjOutIdeal.Rows.argW m c) (Cert.ProjOutIdeal.Rows.argS m c)
      (Cert.ProjOutIdeal.Rows.argG m c) (Cert.ProjOutIdeal.Rows.argX m c),
    fun c => Cert.Rows.outCodes (Cert.ProjOutIdeal.Rows.argA m c), fun c => Cert.Rows.outScales (Cert.ProjOutIdeal.Rows.argA m c),
    Cert.ProjOutIdeal.Rows.run m ρ,
    (θ_run _ _ _).mono (fun r h c => ?_) (Cert.ProjOutRefIdeal.Rows.run m' ρ')⟩
  obtain ⟨e0, e1, e2, e3, e4⟩ := hagree c
  obtain ⟨h0, h1, h2, hargs⟩ := h c
  refine ⟨h0.trans ?_, h1.trans ?_, h2.trans ?_, hargs⟩
  · unfold Cert.ProjOutRefIdeal.Rows.argA Cert.ProjOutRefIdeal.Rows.argW Cert.ProjOutRefIdeal.Rows.argS
      Cert.ProjOutRefIdeal.Rows.argG Cert.ProjOutRefIdeal.Rows.argX
    rw [e0, e1, e2, e3, e4]
  · unfold Cert.ProjOutRefIdeal.Rows.argA
    rw [e0]
  · unfold Cert.ProjOutRefIdeal.Rows.argA
    rw [e0]

end Cert.Proof

end
-- ==== Proof.InHeads.lean ====
/-
  The input projection's kernel: what it does with one head of 128 columns of one block of 128 rows. A head is normalised
  over its 128 entries, turned by the rotary embedding (a rotation of the lanes by 64 and the sine's first half negated), and
  quantised to integers. Stated once, for any head.
-/
module

public import proofs.«01_k».proof.Proof.Gen.ProjInIdeal.Skeleton
public import proofs.«01_k».proof.Proof.Ops

@[expose] public section

set_option maxRecDepth 16384

noncomputable section

open Idealize.ShloMosaic Idealize.ShloMosaic.TcCoe Idealize.SL.Sem

namespace Cert.ProjInIdeal.Rows

open Cert.ProjInIdeal Cert.ProjInIdeal.Gen Cert.Rows

/-- A 128-entry row of a head. -/
abbrev hrow (T : Vec Ideal S128x128 .f32) (r : Fin 128) : Fin 128 → EReal := fun k => T (ix2 r k)
/-- The gain of a head's entries. -/
abbrev gain (g : Vec Ideal S1x128 .f32) : Fin 128 → EReal := fun k => g (ix2 0 k)

/-- The normalised head. -/
def normV (T : FVec Ideal S128x128 .f32) (g : Vec Ideal S1x128 .f32) : FVec Ideal S128x128 .f32 :=
  mulf (mulf T (broadcastTo S128x128 (divf (broadcast S128x1 (Scalar.ofBits .f32 0x3F800000#32))
      (sqrt (addf (divf (shapeCast S128x1 (multiReduction .add [1] S128 (mulf T T) 0x00000000#32 reduces_S128x128_S128_2 (.inl rfl) rfl)
        shapeCasts_S128_S128x1) (broadcast S128x1 (Scalar.ofBits .f32 0x43000000#32))) (broadcast S128x1 (Scalar.ofBits .f32 0x358637BD#32)))))
      broadcasts_S128x1_S128x128))
    (broadcastTo S128x128 (shapeCast S1x128 g shapeCasts_S1x128_S1x128) broadcasts_S1x128_S128x128)

/-- The head after the rotary embedding, from the spread cosines `C` and the sines `S` with the first half negated. -/
def ropeV (T C S : FVec Ideal S128x128 .f32) (g : Vec Ideal S1x128 .f32) : FVec Ideal S128x128 .f32 :=
  addf (mulf (normV T g) C) (mulf (dynamicRotate 1 64#32 none (normV T g) rotates_S128x128_d1) S)

/-- The scale column of a head. -/
def scaleV (A : FVec Ideal S128x128 .f32) : FVec Ideal S128x1 .f32 :=
  have a := shapeCast S128x1 (multiReduction .maximumf [1] S128 (absf A) 0xFF800000#32 reduces_S128x128_S128_2 (.inl rfl) rfl) shapeCasts_S128_S128x1
  select (cmpf .oeq a (broadcast S128x1 (Scalar.ofBits .f32 0x00000000#32))) (broadcast S128x1 (Scalar.ofBits .f32 0x3F800000#32))
    (divf a (broadcast S128x1 (Scalar.ofBits .f32 0x42FE0000#32)))

/-- The integer codes of a head, still as numbers. -/
def codesV (A : FVec Ideal S128x128 .f32) : FVec Ideal S128x128 .f32 :=
  minimumf (broadcast S128x128 (Scalar.ofBits .f32 0x42FE0000#32)) (maximumf (broadcast S128x128 (Scalar.ofBits .f32 0xC2FE0000#32))
    (roundeven (mulf A (broadcastTo S128x128 (divf (broadcast S128x1 (Scalar.ofBits .f32 0x3F800000#32)) (scaleV A)) broadcasts_S128x1_S128x128))))

theorem normV_at (T : Vec Ideal S128x128 .f32) (g : Vec Ideal S1x128 .f32) (r k : Fin 128) :
    normV T g (ix2 r k) = normed narrow (hrow T r) (gain g) k := by
  pointwise [normV]
  show _ = Ideal.div _ (rms narrow _) * _
  rw [← mul_div_one (rms_narrow_ne_zero _)]
  rfl

/-- The spread cosines. -/
theorem cos_at (c : Vec Ideal S1x128x64 .f32) (r k : Fin 128) :
    k0_pay8 c (ix2 r k) = if h : k.val < 64 then c (ix3 0 r ⟨k.val, h⟩) else c (ix3 0 r ⟨k.val - 64, by omega⟩) := by
  pointwise [k0_pay8]

/-- The spread sines, the first half negated. -/
theorem sin_at (s : Vec Ideal S1x128x64 .f32) (r k : Fin 128) :
    k0_pay9 s (ix2 r k) = if h : k.val < 64 then - s (ix3 0 r ⟨k.val, h⟩) else s (ix3 0 r ⟨k.val - 64, by omega⟩) := by
  pointwise [k0_pay9]
  simp only [zero_sub]

/-- A head turned by 64 lanes. -/
theorem turn_at (T : Vec Ideal S128x128 .f32) (r k : Fin 128) :
    dynamicRotate 1 64#32 none T rotates_S128x128_d1 (ix2 r k)
      = if h : k.val < 64 then T (ix2 r ⟨k.val + 64, by omega⟩) else T (ix2 r ⟨k.val - 64, by omega⟩) := by
  pointwise
  split_ifs with h
  · exact congrArg (fun i => T (ix2 r i)) (Fin.ext (by show (k.val + 128 - 64) % 128 = k.val + 64; omega))
  · exact congrArg (fun i => T (ix2 r i)) (Fin.ext (by show (k.val + 128 - 64) % 128 = k.val - 64; omega))

theorem ropeV_at (T : Vec Ideal S128x128 .f32) (c s : Vec Ideal S1x128x64 .f32) (g : Vec Ideal S1x128 .f32) (r k : Fin 128) :
    ropeV T (k0_pay8 c) (k0_pay9 s) g (ix2 r k)
      = rope (normed narrow (hrow T r) (gain g)) (fun i => c (ix3 0 r i)) (fun i => s (ix3 0 r i)) k := by
  show normV T g (ix2 r k) * k0_pay8 c (ix2 r k)
    + dynamicRotate 1 64#32 none (normV T g) rotates_S128x128_d1 (ix2 r k) * k0_pay9 s (ix2 r k) = _
  rw [turn_at, cos_at, sin_at]
  simp only [normV_at]
  unfold rope
  split_ifs with h
  · rw [mul_neg, ← sub_eq_add_neg]
  · rfl

theorem scaleV_at (A : Vec Ideal S128x128 .f32) (j : S128x1.Idx) : scaleV A j = scale topI (hrow A (j 0)) := by
  pointwise [scaleV]
  rfl

theorem codesV_at (A : Vec Ideal S128x128 .f32) (r k : Fin 128) : codesV A (ix2 r k) = codeI (hrow A r) k := by
  pointwise [codesV]
  rw [scaleV_at, mul_div_one (scaleI_ne_zero _)]
  rfl

end Cert.ProjInIdeal.Rows

end
-- ==== Proof.InSpec.lean ====
/-
  What the input projection computes. A row of `x` is normalised and quantised, multiplied into the weights and rescaled; the
  2048 results are 16 heads of 128: eight query heads and four key heads, normalised again and turned by the rotary
  embedding, and four value heads. The keys and values are quantised to bytes, one scale per head. `Shared` holds what every
  row shares; the result arrays are then functions of the eight arguments.
-/
module

public import proofs.«01_k».proof.Proof.OutSpec

@[expose] public section

noncomputable section

open Idealize.ShloMosaic

namespace Cert.Rows

/-- What every row shares: the gains, the weights and their scales. -/
@[ext] structure Shared where
  gin : Fin 5376 → EReal
  w : Fin 5376 → Fin 2048 → EReal
  s : Fin 2048 → EReal
  gq : Fin 128 → EReal
  gk : Fin 128 → EReal

/-- Head `h` of a projected row. -/
abbrev headRow (p : Fin 2048 → EReal) (h : Fin 16) : Fin 128 → EReal := fun k => p ⟨h.val * 128 + k.val, by omega⟩

/-- The query, key and value heads among the sixteen. -/
abbrev qHead (h : Fin 8) : Fin 16 := ⟨h.val, by omega⟩
abbrev kHead (h : Fin 4) : Fin 16 := ⟨8 + h.val, by omega⟩
abbrev vHead (h : Fin 4) : Fin 16 := ⟨12 + h.val, by omega⟩

namespace Shared

/-- The normalised row. -/
def xn (P : Shared) (x : Fin 5376 → EReal) : Fin 5376 → EReal := normed wide x P.gin
/-- The projected row. -/
def proj (P : Shared) (x : Fin 5376 → EReal) : Fin 2048 → EReal := projected (P.xn x) P.w P.s
/-- A query head of the row. -/
def q (P : Shared) (x : Fin 5376 → EReal) (c s : Fin 64 → EReal) (h : Fin 8) : Fin 128 → EReal :=
  rope (normed narrow (headRow (P.proj x) (qHead h)) P.gq) c s
/-- A key head of the row. -/
def k (P : Shared) (x : Fin 5376 → EReal) (c s : Fin 64 → EReal) (h : Fin 4) : Fin 128 → EReal :=
  rope (normed narrow (headRow (P.proj x) (kHead h)) P.gk) c s
/-- A value head of the row. -/
def v (P : Shared) (x : Fin 5376 → EReal) (h : Fin 4) : Fin 128 → EReal := headRow (P.proj x) (vHead h)

end Shared

/-- The byte codes of a row. -/
def codeB {n : ℕ} (v : Fin n → EReal) (k : Fin n) : BitVec 8 := Ideal.fptosi 8 (codeI v k)

/-- The arguments: `x`, what the rows share, the cosines and the sines. -/
structure InArgs where
  x : (⟨3, ![2, 512, 5376]⟩ : Shape).Idx → EReal
  P : Shared
  cos : (⟨3, ![2, 512, 64]⟩ : Shape).Idx → EReal
  sin : (⟨3, ![2, 512, 64]⟩ : Shape).Idx → EReal

namespace InArgs

variable (a : InArgs)

/-- Row `t` of batch `b`, of `x`, the cosines and the sines. -/
abbrev xr (b : Fin 2) (t : Fin 512) : Fin 5376 → EReal := fun k => a.x (ix3 b t k)
abbrev cr (b : Fin 2) (t : Fin 512) : Fin 64 → EReal := fun k => a.cos (ix3 b t k)
abbrev sr (b : Fin 2) (t : Fin 512) : Fin 64 → EReal := fun k => a.sin (ix3 b t k)
/-- Its key head `h`. -/
abbrev kr (b : Fin 2) (t : Fin 512) (h : Fin 4) : Fin 128 → EReal := a.P.k (a.xr b t) (a.cr b t) (a.sr b t) h
/-- Its value head `h`. -/
abbrev vr (b : Fin 2) (t : Fin 512) (h : Fin 4) : Fin 128 → EReal := a.P.v (a.xr b t) h

/-- The codes of the normalised rows. -/
def codes : (⟨3, ![2, 512, 5376]⟩ : Shape).Idx → EReal := fun i => code8 (a.P.xn (a.xr (i 0) (i 1))) (i 2)
/-- The scales of the normalised rows, in tiles of 128 rows. -/
def scales : (⟨3, ![8, 1, 128]⟩ : Shape).Idx → EReal :=
  fun i => scale top8 (a.P.xn (flatRow a.x ((i 0).val * 128 + (i 2).val) (tile_lt (i 0) (i 2))))
/-- The query heads, the rows last. -/
def qt : (⟨4, ![2, 8, 128, 512]⟩ : Shape).Idx → EReal :=
  fun i => a.P.q (a.xr (i 0) (i 3)) (a.cr (i 0) (i 3)) (a.sr (i 0) (i 3)) (i 1) (i 2)
/-- The key and value codes, head by head. -/
def kn : (⟨4, ![2, 4, 512, 128]⟩ : Shape).Idx → BitVec 8 := fun i => codeB (a.kr (i 0) (i 2) (i 1)) (i 3)
def vn : (⟨4, ![2, 4, 512, 128]⟩ : Shape).Idx → BitVec 8 := fun i => codeB (a.vr (i 0) (i 2) (i 1)) (i 3)
/-- The key and value codes, row by row. -/
def kc : (⟨4, ![2, 512, 4, 128]⟩ : Shape).Idx → BitVec 8 := fun i => codeB (a.kr (i 0) (i 1) (i 2)) (i 3)
def vc : (⟨4, ![2, 512, 4, 128]⟩ : Shape).Idx → BitVec 8 := fun i => codeB (a.vr (i 0) (i 1) (i 2)) (i 3)
/-- The key and value scales. -/
def ks : (⟨3, ![2, 512, 4]⟩ : Shape).Idx → EReal := fun i => scale topI (a.kr (i 0) (i 1) (i 2))
def vs : (⟨3, ![2, 512, 4]⟩ : Shape).Idx → EReal := fun i => scale topI (a.vr (i 0) (i 1) (i 2))

end InArgs

end Cert.Rows

end
-- ==== Proof.Bytes.lean ====
/-
  Bytes packed four to a word and read back. The kernel writes the byte caches by joining four heads' codes into 32-bit words,
  the first head lowest, and reading the words as bytes; each byte comes back as its head's code.
-/
module

public import proofs.«01_k».proof.Proof.InSpec
public import Idealize.ShloMosaic.Lib.BitcastFour

@[expose] public section

noncomputable section

open Idealize.ShloMosaic

namespace Cert.Rows

/-- A word masked to its low byte, or shifted past all but it, holds that byte only. -/
theorem and_255 (x : BitVec 32) : x &&& 255#32 = (x.setWidth 8).setWidth 32 := by
  apply BitVec.eq_of_getLsbD_eq
  intro i hi
  have h255 : (255#32 : BitVec 32).getLsbD i = decide (i < 8) := by
    interval_cases i <;> rfl
  simp only [BitVec.getLsbD_and, BitVec.getLsbD_setWidth, h255]
  by_cases h : i < 8
  · simp [h, hi]
  · simp [h, BitVec.getLsbD_of_ge x i]

theorem shl_24 (x : BitVec 32) : x <<< 24 = ((x.setWidth 8).setWidth 32) <<< 24 := by
  apply BitVec.eq_of_getLsbD_eq
  intro i hi
  simp only [BitVec.getLsbD_shiftLeft, BitVec.getLsbD_setWidth]
  by_cases h : i < 24
  · simp [h]
  · simp [h, hi, show i - 24 < 8 by omega, show i - 24 < 32 by omega]

/-- Words read as bytes: byte `4 r + h` of a column is bits `8 h … 8 h + 7` of word `r`. -/
theorem bitcast_32_8_getLsbD_ix2 {R r n : ℕ} (x : (⟨2, ![r, n]⟩ : Shape).Idx → BitVec 32)
    (h : (⟨2, ![r, n]⟩ : Shape).Bitcasts 32 ⟨2, ![R, n]⟩ 8) (p : Fin R) (l : Fin n) (q : ℕ) (hq : q < 8) (a : Fin r)
    (ha : a.val = p.val / 4) :
    (bitcast ⟨2, ![R, n]⟩ 8 x h (ix2 p l)).getLsbD q = (x (ix2 a l)).getLsbD (8 * (p.val % 4) + q) := by
  rw [bitcast_getLsbD x h _ q hq (by decide)]
  have hrow : (⟨2, ![R, n]⟩ : Shape).row (ix2 p l) = p.val := rfl
  have e2 : ((⟨2, ![R, n]⟩ : Shape).row (ix2 p l) * 8 + q) % 32 = 8 * (p.val % 4) + q := by rw [hrow]; omega
  rw [e2]
  congr 2
  funext c
  match c with
  | ⟨0, _⟩ => exact Fin.ext ((h.srcIdx_row _ _ _ ⟨0, Nat.zero_lt_two⟩ rfl).trans (by rw [hrow]; show _ = a.val; omega))
  | ⟨1, _⟩ => exact Fin.ext (h.srcIdx_other _ _ _ ⟨1, Nat.one_lt_two⟩ (by show ¬ 1 + 2 = 2; omega))

/-- Four words' low bytes joined into one word, read back: byte `q` is word `q`'s low byte. -/
theorem joined_byte (A : Fin 4 → BitVec 32) (h : Fin 4) (i : ℕ) (hi : i < 8) :
    ((A 0 &&& 255#32) <<< 0 ||| (A 1 &&& 255#32) <<< 8 ||| (A 2 &&& 255#32) <<< 16 ||| A 3 <<< 24).getLsbD (8 * h.val + i)
      = ((A h).setWidth 8).getLsbD i := by
  rw [and_255, and_255, and_255, shl_24 (A 3), BitVec.shiftLeft_zero]
  refine (four_bytes_getLsbD (fun h => (A h).setWidth 8) (8 * h.val + i) (by omega)).trans ?_
  have e : (⟨(8 * h.val + i) / 8, by omega⟩ : Fin 4) = h := Fin.ext (by show (8 * h.val + i) / 8 = h.val; omega)
  rw [e, show (8 * h.val + i) % 8 = i by omega]

/-- A code lies between the two largest codes. -/
theorem codeI_mem {n : ℕ} (v : Fin n → EReal) (k : Fin n) : botI ≤ codeI v k ∧ codeI v k ≤ topI := by
  refine ⟨le_min ?_ (le_max_left _ _), min_le_left _ _⟩
  rw [botI_eq, topI_eq]
  exact_mod_cast (by norm_num : (-127 : ℝ) ≤ 127)

/-- A code converted to 32 bits and cut to its low byte is the code converted to a byte. -/
theorem narrow_code {x : EReal} (h : botI ≤ x ∧ x ≤ topI) : (Ideal.fptosi 32 x).setWidth 8 = Ideal.fptosi 8 x := by
  obtain ⟨h1, h2⟩ := h
  rw [botI_eq] at h1
  rw [topI_eq] at h2
  induction x with
  | bot => exact absurd h1 (by simp [EReal.bot_lt_coe])
  | top => exact absurd h2 (by simp [EReal.coe_lt_top])
  | coe r =>
    have g1 : (-127 : ℝ) ≤ r := by exact_mod_cast h1
    have g2 : r ≤ (127 : ℝ) := by exact_mod_cast h2
    unfold Ideal.fptosi
    simp only [Ideal.toIntClamped_coe]
    have hz : -127 ≤ (if 0 ≤ r then ⌊r⌋ else ⌈r⌉) ∧ (if 0 ≤ r then ⌊r⌋ else ⌈r⌉) ≤ 127 := by
      split_ifs with h0
      · exact ⟨Int.le_floor.mpr (by push_cast; linarith), by
          have := Int.floor_le r
          exact_mod_cast (this.trans g2)⟩
      · exact ⟨by
          have := Int.le_ceil r
          exact_mod_cast (g1.trans this), Int.ceil_le.mpr (by push_cast; linarith)⟩
    generalize (if 0 ≤ r then ⌊r⌋ else ⌈r⌉) = z at hz
    have e1 : max (-((2 ^ (32 - 1) : ℕ) : ℤ)) (min (((2 ^ (32 - 1) : ℕ) : ℤ) - 1) z) = z := by norm_num; omega
    have e2 : max (-((2 ^ (8 - 1) : ℕ) : ℤ)) (min (((2 ^ (8 - 1) : ℕ) : ℤ) - 1) z) = z := by norm_num; omega
    rw [e1, e2]
    apply BitVec.eq_of_toNat_eq
    simp only [BitVec.toNat_setWidth, BitVec.toNat_ofInt]
    omega

end Cert.Rows

end
-- ==== Proof.InKernel.lean ====
/-
  The input projection's kernel, one block of 128 rows at a time: what each store writes, as the row functions of
  `InSpec.lean`. The heads are the slices of the projected block; each store's payload is one of the head functions of
  `InHeads.lean` at its slice.
-/
module

public import proofs.«01_k».proof.Proof.InHeads
public import proofs.«01_k».proof.Proof.Bytes

@[expose] public section

set_option maxRecDepth 16384

noncomputable section

open Idealize.ShloMosaic Idealize.ShloMosaic.TcCoe Idealize.SL.Sem

namespace Cert.ProjInIdeal.Rows

open Cert.ProjInIdeal Cert.ProjInIdeal.Gen Cert.Rows

/-- Row `r` of a block of cosines or sines. -/
abbrev trow (c : Vec Ideal S1x128x64 .f32) (r : Fin 128) : Fin 64 → EReal := fun k => c (ix3 0 r k)

section Head

variable (T : Vec Ideal S128x2048 .f32)

/-- Head `n` of a projected block, as a slice, reads the head's row. -/
theorem slice_at (n : ℕ) (hn : n < 16) (h : S128x2048.Slices ![0, n * 128] S128x128) (r : Fin 128) :
    hrow (extractStridedSlice S128x128 ![0, n * 128] T h) r = headRow (fun j => T (ix2 r j)) ⟨n, hn⟩ := by
  funext k
  refine congrArg T ?_
  funext a
  match a with
  | ⟨0, _⟩ => exact Fin.ext (Nat.zero_add _)
  | ⟨1, _⟩ => rfl

variable (c sn : Vec Ideal S1x128x64 .f32) (g : Vec Ideal S1x128 .f32)

/-- A turned head. -/
def turned (A : FVec Ideal S128x128 .f32) : FVec Ideal S128x128 .f32 := ropeV A (k0_pay8 c) (k0_pay9 sn) g

/-- A query head as stored: turned, and transposed. -/
def storedQ (A : FVec Ideal S128x128 .f32) : FVec Ideal S1x1x128x128 .bf16 :=
  shapeCast S1x1x128x128 (truncf .bf16 (transpose S128x128 [1, 0] (turned c sn g A) transposes_S128x128_p1_0_S128x128) bitsLt_bf16_f32)
    shapeCasts_S128x128_S1x1x128x128

theorem turned_row (A : Vec Ideal S128x128 .f32) (r : Fin 128) :
    hrow (turned c sn g A) r = rope (normed narrow (hrow A r) (gain g)) (trow c r) (trow sn r) :=
  funext fun k => ropeV_at A c sn g r k

theorem storedQ_at (A : Vec Ideal S128x128 .f32) (j : S1x1x128x128.Idx) :
    storedQ c sn g A j = rope (normed narrow (hrow A (j 3)) (gain g)) (trow c (j 3)) (trow sn (j 3)) (j 2) := by
  have h : storedQ c sn g A j = turned c sn g A (ix2 (j 3) (j 2)) := by
    unfold storedQ
    generalize turned c sn g A = B
    pointwise
  rw [h]
  exact ropeV_at A c sn g _ _

/-- A key or value head as stored: its codes as bytes. -/
def storedB (A : FVec Ideal S128x128 .f32) : IVec S1x1x128x128 8 :=
  shapeCast S1x1x128x128 (fptosi 8 (codesV A)) shapeCasts_S128x128_S1x1x128x128

theorem storedB_at (A : Vec Ideal S128x128 .f32) (j : S1x1x128x128.Idx) : storedB A j = codeB (hrow A (j 2)) (j 3) := by
  obtain ⟨y, z, r, k, rfl⟩ : ∃ (y z : Fin 1) (r k : Fin 128), j = ix4 y z r k := ⟨_, _, _, _, eq_ix4 j⟩
  have h : storedB A (ix4 y z r k) = Ideal.fptosi 8 (codesV A (ix2 r k)) := by
    unfold storedB
    generalize codesV A = B
    pointwise
    rfl
  rw [h, codesV_at]
  rfl

/-- Four heads' codes as stored row by row: packed into words, read as bytes. -/
def packedB (A : Fin 4 → FVec Ideal S128x128 .f32) : IVec S1x128x4x128 8 :=
  k0_pay70 (codesV (A 0)) (codesV (A 1)) (codesV (A 2)) (codesV (A 3))

theorem rows_by_head (v : IVec S512x128 8) (r : Fin 128) (h : Fin 4) (k : Fin 128) :
    shapeCast S1x128x4x128 (shapeCast S128x4x128 v shapeCasts_S512x128_S128x4x128) shapeCasts_S128x4x128_S1x128x4x128 (ix4 0 r h k)
      = v (ix2 ⟨r.val * 4 + h.val, by omega⟩ k) := by
  pointwise

theorem packedB_at (A : Fin 4 → Vec Ideal S128x128 .f32) (r : Fin 128) (h : Fin 4) (k : Fin 128) :
    packedB A (ix4 0 r h k) = codeB (hrow (A h) r) k := by
  unfold packedB k0_pay70
  rw [rows_by_head]
  apply BitVec.eq_of_getLsbD_eq
  intro i hi
  rw [bitcast_32_8_getLsbD_ix2 _ _ _ k i hi r (by show r.val = (r.val * 4 + h.val) / 4; omega)]
  rw [show (r.val * 4 + h.val) % 4 = h.val by omega]
  refine (joined_byte (fun h => Ideal.fptosi 32 (codesV (A h) (ix2 r k))) h i hi).trans ?_
  rw [codesV_at, narrow_code (codeI_mem _ _)]
  rfl

/-- Four heads' scales as stored. -/
def storedS (A : Fin 4 → FVec Ideal S128x128 .f32) : FVec Ideal S1x128x4 .f32 :=
  k0_pay73 (scaleV (A 0)) (scaleV (A 1)) (scaleV (A 2)) (scaleV (A 3))

theorem columns_at (a : Fin 4 → Vec Ideal S128x1 .f32) (r : Fin 128) (h : Fin 4) :
    k0_pay73 (F := Ideal) (a 0) (a 1) (a 2) (a 3) (ix3 0 r h) = a h (ix2 r 0) := by
  pointwise [k0_pay73]
  fin_cases h <;> rfl

theorem storedS_at (A : Fin 4 → Vec Ideal S128x128 .f32) (r : Fin 128) (h : Fin 4) :
    storedS A (ix3 0 r h) = scale topI (hrow (A h) r) := by
  refine (columns_at (fun h => scaleV (A h)) r h).trans ?_
  exact scaleV_at _ _

end Head

end Cert.ProjInIdeal.Rows

end
-- ==== Proof.InStores.lean ====
/-
  The input projection's kernel, one block of 128 rows at a time: what the body leaves in each result's block. The heads are
  slices of the projected block; a block written by several stores, one head each, is read head by head.
-/
module

public import proofs.«01_k».proof.Proof.Gen.ProjInIdeal.Frame
public import proofs.«01_k».proof.Proof.InKernel
public import Idealize.ShloMosaic.Lib.Pipeline.ValueKit

@[expose] public section

set_option maxRecDepth 16384

noncomputable section

open Idealize.ShloMosaic Idealize.ShloMosaic.TcCoe Idealize.SL.Sem

namespace Cert.ProjInIdeal.Rows

open Cert.ProjInIdeal Cert.ProjInIdeal.Gen Cert.Rows

theorem slices (n : Fin 16) : S128x2048.Slices ![0, n.val * 128] S128x128 :=
  ⟨rfl, fun a => match a with
    | ⟨0, _⟩ => by show 0 + 128 ≤ 128; omega
    | ⟨1, _⟩ => by have := n.isLt; show n.val * 128 + 128 ≤ 2048; omega⟩

/-- Head `n` of a projected block. -/
def headV (T : Vec Ideal S128x2048 .f32) (n : Fin 16) : FVec Ideal S128x128 .f32 :=
  extractStridedSlice S128x128 ![0, n.val * 128] T (slices n)

theorem headV_row (T : Vec Ideal S128x2048 .f32) (n : Fin 16) (r : Fin 128) :
    hrow (headV T n) r = headRow (fun j => T (ix2 r j)) n := slice_at T n.val n.isLt _ r

/-- A store of one head read at its place in the block. -/
theorem at_head {n : ℕ} {α : Type} (f : Fin n → S1x1x128x128.Idx → α) (h h' : Fin n) (x : S1x1x128x128.Idx) (a b : Fin 128)
    (e1 : h.val = h'.val) (e2 : (x 2).val = a.val) (e3 : (x 3).val = b.val) : f h x = f h' (ix4 0 0 a b) := by
  obtain ⟨y, z, r, k, rfl⟩ : ∃ (y z : Fin 1) (r k : Fin 128), x = ix4 y z r k := ⟨_, _, _, _, eq_ix4 x⟩
  obtain rfl := Fin.ext e1
  obtain rfl : r = a := Fin.ext e2
  obtain rfl : k = b := Fin.ext e3
  obtain rfl : y = 0 := Subsingleton.elim _ _
  obtain rfl : z = 0 := Subsingleton.elim _ _
  rfl

/-- Eight stores, a head each. -/
theorem eight_heads (f : Fin 8 → Vec Ideal S1x1x128x128 .bf16) (y : S1x8x128x128.Idx) :
    View.canon [⟨r0_14, f 7⟩, ⟨r0_13, f 6⟩, ⟨r0_12, f 5⟩, ⟨r0_11, f 4⟩, ⟨r0_10, f 3⟩, ⟨r0_9, f 2⟩, ⟨r0_8, f 1⟩, ⟨r0_7, f 0⟩] y
      = f (y 1) (ix4 0 0 (y 2) (y 3)) := by
  refine View.canon_apply_of_pieces (fun y => f (y 1) (ix4 0 0 (y 2) (y 3))) _ ?_ y (cover0_10 _ _ _ _ _ _ _ _ y)
  simp only [List.forall_mem_cons]
  refine ⟨?_, ?_, ?_, ?_, ?_, ?_, ?_, ?_, fun _ h => absurd h List.not_mem_nil⟩ <;> intro x
  all_goals
    have h1 : (x 1).val = 0 := Nat.lt_one_iff.mp (x 1).isLt
    refine at_head f _ _ x _ _ ?_ ?_ ?_
    · show (_ : ℕ) = _ + 1 * (x 1).val
      rw [h1]
      try rfl
    · show (x 2).val = 0 + 1 * (x 2).val
      omega
    · show (x 3).val = 0 + 1 * (x 3).val
      omega

/-- Four stores, a head each. -/
theorem four_heads (f : Fin 4 → Vec Ideal S1x1x128x128 .i8) (y : S1x4x128x128.Idx) :
    View.canon (Val := Elt Ideal) [⟨r0_18, f 3⟩, ⟨r0_17, f 2⟩, ⟨r0_16, f 1⟩, ⟨r0_15, f 0⟩] y = f (y 1) (ix4 0 0 (y 2) (y 3)) := by
  refine View.canon_apply_of_pieces (fun y => f (y 1) (ix4 0 0 (y 2) (y 3))) _ ?_ y (cover0_11 _ _ _ _ y)
  simp only [List.forall_mem_cons]
  refine ⟨?_, ?_, ?_, ?_, fun _ h => absurd h List.not_mem_nil⟩ <;> intro x
  all_goals
    have h1 : (x 1).val = 0 := Nat.lt_one_iff.mp (x 1).isLt
    refine at_head f _ _ x _ _ ?_ ?_ ?_
    · show (_ : ℕ) = _ + 1 * (x 1).val
      rw [h1]
      try rfl
    · show (x 2).val = 0 + 1 * (x 2).val
      omega
    · show (x 3).val = 0 + 1 * (x 3).val
      omega

section Block

variable (x0 : Vec Ideal S1x128x5376 .bf16) (x1 : Vec Ideal S1x5376 .f32) (x2 : Vec Ideal S5376x2048 .fp8e4m3) (x3 : Vec Ideal S1x2048 .f32)
  (x4 x5 : Vec Ideal S1x128 .f32) (x6 x7 : Vec Ideal S1x128x64 .f32)

theorem ld0 : View.ld x0 r0_0 = x0 := View.ld_unit_lit' _ _ (by decide)
theorem ld1 : View.ld x1 r0_1 = x1 := View.ld_unit_lit' _ _ (by decide)
theorem ld2 : View.ld x2 r0_3 = x2 := View.ld_unit_lit' _ _ (by decide)
theorem ld3 : View.ld x3 r0_4 = x3 := View.ld_unit_lit' _ _ (by decide)
theorem ld4 : View.ld x4 r0_6 = x4 := View.ld_unit_lit' _ _ (by decide)
theorem ld6 : View.ld x6 r0_5 = x6 := View.ld_unit_lit' _ _ (by decide)

/-- The projected block. -/
abbrev blockT : Vec Ideal S128x2048 .f32 := k0_pay77 x0 x1 x2 x3 x4 x5 x6 x7

theorem blockT_eq : blockT x0 x1 x2 x3 x4 x5 x6 x7 = k0_pay7 (k0_pay3 x0 x1) (k0_pay4 x0 x1) x2 x3 := by
  unfold blockT k0_pay77 k0_pay76 k0_pay75
  rw [ld0, ld1, ld2, ld3]

/-- A key head of the block, turned; a value head. -/
abbrev keyV (h : Fin 4) : FVec Ideal S128x128 .f32 := turned x6 x7 x5 (headV (blockT x0 x1 x2 x3 x4 x5 x6 x7) (kHead h))
abbrev valV (h : Fin 4) : FVec Ideal S128x128 .f32 := headV (blockT x0 x1 x2 x3 x4 x5 x6 x7) (vHead h)

theorem out8_eq : out0_8 x0 x1 x2 x3 x4 x5 x6 x7 = k0_pay5 (k0_pay4 x0 x1) := by
  unfold out0_8 k0_pay76
  rw [ld0, ld1]
  exact View.canon_cons_unit_lit' _ _ _ (by decide)

theorem out9_eq : out0_9 x0 x1 x2 x3 x4 x5 x6 x7 = k0_pay6 (k0_pay3 x0 x1) := by
  unfold out0_9 k0_pay75
  rw [ld0, ld1]
  exact View.canon_cons_unit_lit' _ _ _ (by decide)

theorem out10_eq (y : S1x8x128x128.Idx) : out0_10 x0 x1 x2 x3 x4 x5 x6 x7 y
    = storedQ x6 x7 x4 (headV (blockT x0 x1 x2 x3 x4 x5 x6 x7) (qHead (y 1))) (ix4 0 0 (y 2) (y 3)) := by
  refine Eq.trans ?_ ((eight_heads (fun h => storedQ (View.ld x6 r0_5) (View.ld x7 r0_5) (View.ld x4 r0_6)
    (headV (blockT x0 x1 x2 x3 x4 x5 x6 x7) (qHead h))) y).trans ?_)
  · rfl
  · rw [ld4, ld6, ld6]

theorem out11_eq (y : S1x4x128x128.Idx) : out0_11 x0 x1 x2 x3 x4 x5 x6 x7 y
    = storedB (keyV x0 x1 x2 x3 x4 x5 x6 x7 (y 1)) (ix4 0 0 (y 2) (y 3)) := by
  refine Eq.trans ?_ ((four_heads (fun h => storedB (turned (View.ld x6 r0_5) (View.ld x7 r0_5) (View.ld x5 r0_6)
    (headV (blockT x0 x1 x2 x3 x4 x5 x6 x7) (kHead h)))) y).trans ?_)
  · rfl
  · rw [ld4, ld6, ld6]

theorem out12_eq (y : S1x4x128x128.Idx) : out0_12 x0 x1 x2 x3 x4 x5 x6 x7 y
    = storedB (valV x0 x1 x2 x3 x4 x5 x6 x7 (y 1)) (ix4 0 0 (y 2) (y 3)) := by
  refine Eq.trans ?_ (four_heads (fun h => storedB (headV (blockT x0 x1 x2 x3 x4 x5 x6 x7) (vHead h))) y)
  rfl

/-- The key heads with the blocks read whole. -/
theorem keyV_ld : keyV x0 x1 x2 x3 x4 x5 x6 x7 = fun h => turned (View.ld x6 r0_5) (View.ld x7 r0_5) (View.ld x5 r0_6)
    (headV (blockT x0 x1 x2 x3 x4 x5 x6 x7) (kHead h)) := by
  rw [ld4, ld6, ld6]

theorem out13_eq : out0_13 x0 x1 x2 x3 x4 x5 x6 x7 = packedB (keyV x0 x1 x2 x3 x4 x5 x6 x7) := by
  rw [keyV_ld]
  refine (View.canon_cons_unit_lit' _ _ _ (by decide)).trans ?_
  rfl

theorem out14_eq : out0_14 x0 x1 x2 x3 x4 x5 x6 x7 = packedB (valV x0 x1 x2 x3 x4 x5 x6 x7) := by
  refine (View.canon_cons_unit_lit' _ _ _ (by decide)).trans ?_
  rfl

theorem out15_eq : out0_15 x0 x1 x2 x3 x4 x5 x6 x7 = storedS (keyV x0 x1 x2 x3 x4 x5 x6 x7) := by
  rw [keyV_ld]
  refine (View.canon_cons_unit_lit' _ _ _ (by decide)).trans ?_
  rfl

theorem out16_eq : out0_16 x0 x1 x2 x3 x4 x5 x6 x7 = storedS (valV x0 x1 x2 x3 x4 x5 x6 x7) := by
  refine (View.canon_cons_unit_lit' _ _ _ (by decide)).trans ?_
  rfl

end Block

end Cert.ProjInIdeal.Rows

end
-- ==== Proof.InRows.lean ====
/-
  The input projection's kernel, one block of 128 rows at a time: the normalised rows, their scales and codes, and the
  projected block, as the row functions of `Math.lean`.
-/
module

public import proofs.«01_k».proof.Proof.InHeads
public import proofs.«01_k».proof.Proof.InSpec

@[expose] public section

set_option maxRecDepth 16384

noncomputable section

open Idealize.ShloMosaic Idealize.ShloMosaic.TcCoe Idealize.SL.Sem

namespace Cert.ProjInIdeal.Rows

open Cert.ProjInIdeal Cert.ProjInIdeal.Gen Cert.Rows

/-- Row `r` of the block of `x`. -/
abbrev xrow (x0 : Vec Ideal S1x128x5376 .bf16) (r : Fin 128) : Fin 5376 → EReal := fun k => x0 (ix3 0 r k)

/-- What the rows share, as the body reads it. -/
abbrev shared (gi : Vec Ideal S1x5376 .f32) (w : Vec Ideal S5376x2048 .fp8e4m3) (s : Vec Ideal S1x2048 .f32)
    (gq gk : Vec Ideal S1x128 .f32) : Shared :=
  ⟨fun k => gi (ix2 0 k), fun k j => w (ix2 k j), fun j => s (ix2 0 j), gain gq, gain gk⟩

section Row

variable (x0 : Vec Ideal S1x128x5376 .bf16) (gi : Vec Ideal S1x5376 .f32) (w : Vec Ideal S5376x2048 .fp8e4m3)
  (s : Vec Ideal S1x2048 .f32)

theorem xn_at (r : Fin 128) (k : Fin 5376) : k0_pay2 x0 gi (ix2 r k) = normed wide (xrow x0 r) (fun k => gi (ix2 0 k)) k := by
  pointwise [k0_pay2]
  show _ = Ideal.div _ (rms wide _) * _
  rw [← mul_div_one (rms_wide_ne_zero _)]
  rfl

/-- The scale column holds each normalised row's scale. -/
theorem scale_at (r : Fin 128) (z : Fin 1) :
    k0_pay3 x0 gi (ix2 r z) = scale top8 (normed wide (xrow x0 r) (fun k => gi (ix2 0 k))) := by
  pointwise [k0_pay3]
  simp only [xn_at]
  rfl

/-- The codes are each normalised row's codes. -/
theorem codes_at (r : Fin 128) (k : Fin 5376) :
    k0_pay4 x0 gi (ix2 r k) = code8 (normed wide (xrow x0 r) (fun k => gi (ix2 0 k))) k := by
  pointwise [k0_pay4]
  rw [scale_at, xn_at, mul_div_one (scale8_ne_zero _)]
  rfl

/-- The stored codes. -/
theorem stored_codes_at (j : S1x128x5376.Idx) :
    k0_pay5 (k0_pay4 x0 gi) j = code8 (normed wide (xrow x0 (j 1)) (fun k => gi (ix2 0 k))) (j 2) := by
  pointwise [k0_pay5]
  exact codes_at x0 gi _ _

/-- The stored scales: the column turned into a row, by a sum with one nonzero term. -/
theorem stored_scales_at (j : S1x1x128.Idx) :
    k0_pay6 (k0_pay3 x0 gi) j = scale top8 (normed wide (xrow x0 (j 2)) (fun k => gi (ix2 0 k))) := by
  pointwise [k0_pay6]
  refine (sum_pick (by show 128 ≤ 2 ^ 32; norm_num) (j 2) fun k => k0_pay3 x0 gi (ix2 k 0)).trans ?_
  exact scale_at x0 gi _ _

/-- The projected block. -/
theorem proj_at (r : Fin 128) (j : Fin 2048) :
    k0_pay7 (k0_pay3 x0 gi) (k0_pay4 x0 gi) w s (ix2 r j)
      = projected (normed wide (xrow x0 r) (fun k => gi (ix2 0 k))) (fun k j => w (ix2 k j)) (fun j => s (ix2 0 j)) j := by
  pointwise [k0_pay7]
  simp only [scale_at, codes_at]
  rfl

end Row

end Cert.ProjInIdeal.Rows

end
-- ==== Proof.InValue.lean ====
/-
  The input projection's kernel: its nine result arrays, whole. Grid point `(b, i)` reads rows `128 i … 128 i + 127` of batch
  `b` and writes the same rows of the results, and tile `4 b + i` of the scales; the blocks tile the arrays.
-/
module

public import proofs.«01_k».proof.Proof.InStores
public import proofs.«01_k».proof.Proof.InRows

@[expose] public section

set_option maxRecDepth 16384

noncomputable section

open Idealize.ShloMosaic Idealize.ShloMosaic.TcCoe Idealize.SL.Sem
open Idealize.ShloMosaic.Pipeline (Dat)

namespace Cert.ProjInIdeal.Rows

open Cert.ProjInIdeal Cert.ProjInIdeal.Gen Cert.Rows

section Block

variable (x0 : Vec Ideal S1x128x5376 .bf16) (x1 : Vec Ideal S1x5376 .f32) (x2 : Vec Ideal S5376x2048 .fp8e4m3) (x3 : Vec Ideal S1x2048 .f32)
  (x4 x5 : Vec Ideal S1x128 .f32) (x6 x7 : Vec Ideal S1x128x64 .f32)

/-- A row of the projected block. -/
theorem blockT_row (r : Fin 128) :
    (fun j => blockT x0 x1 x2 x3 x4 x5 x6 x7 (ix2 r j)) = (shared x1 x2 x3 x4 x5).proj (xrow x0 r) := by
  funext j
  rw [blockT_eq]
  exact proj_at x0 x1 x2 x3 r j

theorem keyV_row (h : Fin 4) (r : Fin 128) :
    hrow (keyV x0 x1 x2 x3 x4 x5 x6 x7 h) r = (shared x1 x2 x3 x4 x5).k (xrow x0 r) (trow x6 r) (trow x7 r) h := by
  unfold keyV
  rw [turned_row, headV_row, blockT_row]
  rfl

theorem valV_row (h : Fin 4) (r : Fin 128) :
    hrow (valV x0 x1 x2 x3 x4 x5 x6 x7 h) r = (shared x1 x2 x3 x4 x5).v (xrow x0 r) h := by
  unfold valV
  rw [headV_row, blockT_row]
  rfl

theorem out8_at (y : S1x128x5376.Idx) :
    out0_8 x0 x1 x2 x3 x4 x5 x6 x7 y = code8 ((shared x1 x2 x3 x4 x5).xn (xrow x0 (y 1))) (y 2) := by
  rw [out8_eq]
  exact stored_codes_at x0 x1 y

theorem out9_at (y : S1x1x128.Idx) :
    out0_9 x0 x1 x2 x3 x4 x5 x6 x7 y = scale top8 ((shared x1 x2 x3 x4 x5).xn (xrow x0 (y 2))) := by
  rw [out9_eq]
  exact stored_scales_at x0 x1 y

theorem out10_at (z : Fin 1) (h : Fin 8) (k r : Fin 128) : out0_10 x0 x1 x2 x3 x4 x5 x6 x7 (ix4 z h k r)
    = (shared x1 x2 x3 x4 x5).q (xrow x0 r) (trow x6 r) (trow x7 r) h k := by
  rw [out10_eq, storedQ_at]
  show rope (normed narrow (hrow (headV (blockT x0 x1 x2 x3 x4 x5 x6 x7) (qHead h)) r) _) _ _ _ = _
  rw [headV_row, blockT_row]
  rfl

theorem out11_at (z : Fin 1) (h : Fin 4) (r k : Fin 128) : out0_11 x0 x1 x2 x3 x4 x5 x6 x7 (ix4 z h r k)
    = codeB ((shared x1 x2 x3 x4 x5).k (xrow x0 r) (trow x6 r) (trow x7 r) h) k := by
  rw [out11_eq, storedB_at]
  show codeB (hrow (keyV x0 x1 x2 x3 x4 x5 x6 x7 h) r) k = _
  rw [keyV_row]

theorem out12_at (z : Fin 1) (h : Fin 4) (r k : Fin 128) : out0_12 x0 x1 x2 x3 x4 x5 x6 x7 (ix4 z h r k)
    = codeB ((shared x1 x2 x3 x4 x5).v (xrow x0 r) h) k := by
  rw [out12_eq, storedB_at]
  show codeB (hrow (valV x0 x1 x2 x3 x4 x5 x6 x7 h) r) k = _
  rw [valV_row]

theorem out13_at (z : Fin 1) (r : Fin 128) (h : Fin 4) (k : Fin 128) : out0_13 x0 x1 x2 x3 x4 x5 x6 x7 (ix4 z r h k)
    = codeB ((shared x1 x2 x3 x4 x5).k (xrow x0 r) (trow x6 r) (trow x7 r) h) k := by
  obtain rfl : z = 0 := Subsingleton.elim _ _
  rw [out13_eq, packedB_at, keyV_row]

theorem out14_at (z : Fin 1) (r : Fin 128) (h : Fin 4) (k : Fin 128) : out0_14 x0 x1 x2 x3 x4 x5 x6 x7 (ix4 z r h k)
    = codeB ((shared x1 x2 x3 x4 x5).v (xrow x0 r) h) k := by
  obtain rfl : z = 0 := Subsingleton.elim _ _
  rw [out14_eq, packedB_at, valV_row]

theorem out15_at (z : Fin 1) (r : Fin 128) (h : Fin 4) : out0_15 x0 x1 x2 x3 x4 x5 x6 x7 (ix3 z r h)
    = scale topI ((shared x1 x2 x3 x4 x5).k (xrow x0 r) (trow x6 r) (trow x7 r) h) := by
  obtain rfl : z = 0 := Subsingleton.elim _ _
  rw [out15_eq, storedS_at, keyV_row]

theorem out16_at (z : Fin 1) (r : Fin 128) (h : Fin 4) : out0_16 x0 x1 x2 x3 x4 x5 x6 x7 (ix3 z r h)
    = scale topI ((shared x1 x2 x3 x4 x5).v (xrow x0 r) h) := by
  obtain rfl : z = 0 := Subsingleton.elim _ _
  rw [out16_eq, storedS_at, valV_row]

end Block

variable (m : (ℓ : Loc nD τ sig) → Buf (Elt Ideal) ℓ) (c : Dev nD)

/-- The arguments as launched. -/
def args : InArgs where
  x := m ((c : Thread nD τ).loc main_arg0)
  P :=
    { gin := fun k => (m ((c : Thread nD τ).loc main_arg1) : Vec Ideal S5376 .f32) (ix1 k)
      w := fun k j => (m ((c : Thread nD τ).loc main_arg2) : Vec Ideal S5376x2048 .fp8e4m3) (ix2 k j)
      s := fun j => (m ((c : Thread nD τ).loc main_arg3) : Vec Ideal S2048 .f32) (ix1 j)
      gq := fun k => (m ((c : Thread nD τ).loc main_arg4) : Vec Ideal S128 .f32) (ix1 k)
      gk := fun k => (m ((c : Thread nD τ).loc main_arg5) : Vec Ideal S128 .f32) (ix1 k) }
  cos := m ((c : Thread nD τ).loc main_arg6)
  sin := m ((c : Thread nD τ).loc main_arg7)

/-- Rows given a leading axis of one. -/
theorem lead_5376 (v : Vec Ideal S5376 .f32) (i : S1x5376.Idx) : shapeCast S1x5376 v shapeCasts_S5376_S1x5376 i = v (ix1 (i 1)) := by
  pointwise
theorem lead_2048 (v : Vec Ideal S2048 .f32) (i : S1x2048.Idx) : shapeCast S1x2048 v shapeCasts_S2048_S1x2048 i = v (ix1 (i 1)) := by
  pointwise
theorem lead_128 (v : Vec Ideal S128 .f32) (i : S1x128.Idx) : shapeCast S1x128 v shapeCasts_S128_S1x128 i = v (ix1 (i 1)) := by
  pointwise

/-- The rows as the kernel reads them: the arguments with a leading axis of one. -/
theorem V_gin (i : S1x5376.Idx) : V m c main_v0 i = (args m c).P.gin (i 1) := by
  have h : V m c main_v0 = shapeCast S1x5376 (m ((c : Thread nD τ).loc main_arg1)) shapeCasts_S5376_S1x5376 := by
    show StableHlo.after hostOps0 _ (Proc.devRef .tc main_v0) = _
    after_results
    rfl
  rw [h]
  exact lead_5376 _ i
theorem V_s (i : S1x2048.Idx) : V m c main_v1 i = (args m c).P.s (i 1) := by
  have h : V m c main_v1 = shapeCast S1x2048 (m ((c : Thread nD τ).loc main_arg3)) shapeCasts_S2048_S1x2048 := by
    show StableHlo.after hostOps0 _ (Proc.devRef .tc main_v1) = _
    after_results
    rfl
  rw [h]
  exact lead_2048 _ i
theorem V_gq (i : S1x128.Idx) : V m c main_v2 i = (args m c).P.gq (i 1) := by
  have h : V m c main_v2 = shapeCast S1x128 (m ((c : Thread nD τ).loc main_arg4)) shapeCasts_S128_S1x128 := by
    show StableHlo.after hostOps0 _ (Proc.devRef .tc main_v2) = _
    after_results
    rfl
  rw [h]
  exact lead_128 _ i
theorem V_gk (i : S1x128.Idx) : V m c main_v3 i = (args m c).P.gk (i 1) := by
  have h : V m c main_v3 = shapeCast S1x128 (m ((c : Thread nD τ).loc main_arg5)) shapeCasts_S128_S1x128 := by
    show StableHlo.after hostOps0 _ (Proc.devRef .tc main_v3) = _
    after_results
    rfl
  rw [h]
  exact lead_128 _ i

/-- The shared blocks stand at zero, decided over the eight points. -/
theorem shared_facts : ∀ t : Fin grid0.N,
    (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) := by
  decide +kernel

/-- The blocks of `x`, the cosines and the sines stand at the same rows. -/
theorem row_facts : ∀ t : Fin grid0.N,
    (win0_0.index t 0 < 2 ∧ win0_0.index t 1 < 4 ∧ win0_0.index t 2 = 0)
    ∧ (win0_6.index t 0 = win0_0.index t 0 ∧ win0_6.index t 1 = win0_0.index t 1 ∧ win0_6.index t 2 = 0)
    ∧ (win0_7.index t 0 = win0_0.index t 0 ∧ win0_7.index t 1 = win0_0.index t 1 ∧ win0_7.index t 2 = 0) := by
  decide +kernel

/-- The results' blocks stand at those rows. -/
theorem out_facts : ∀ t : Fin grid0.N,
    (win0_8.index t 0 = win0_0.index t 0 ∧ win0_8.index t 1 = win0_0.index t 1 ∧ win0_8.index t 2 = 0)
    ∧ (win0_9.index t 0 = win0_0.index t 0 * 4 + win0_0.index t 1 ∧ win0_9.index t 1 = 0 ∧ win0_9.index t 2 = 0)
    ∧ (win0_10.index t 0 = win0_0.index t 0 ∧ win0_10.index t 1 = 0 ∧ win0_10.index t 2 = 0 ∧ win0_10.index t 3 = win0_0.index t 1)
    ∧ (win0_11.index t 0 = win0_0.index t 0 ∧ win0_11.index t 1 = 0 ∧ win0_11.index t 2 = win0_0.index t 1 ∧ win0_11.index t 3 = 0)
    ∧ (win0_12.index t 0 = win0_0.index t 0 ∧ win0_12.index t 1 = 0 ∧ win0_12.index t 2 = win0_0.index t 1 ∧ win0_12.index t 3 = 0)
    ∧ (win0_13.index t 0 = win0_0.index t 0 ∧ win0_13.index t 1 = win0_0.index t 1 ∧ win0_13.index t 2 = 0 ∧ win0_13.index t 3 = 0)
    ∧ (win0_14.index t 0 = win0_0.index t 0 ∧ win0_14.index t 1 = win0_0.index t 1 ∧ win0_14.index t 2 = 0 ∧ win0_14.index t 3 = 0)
    ∧ (win0_15.index t 0 = win0_0.index t 0 ∧ win0_15.index t 1 = win0_0.index t 1 ∧ win0_15.index t 2 = 0)
    ∧ (win0_16.index t 0 = win0_0.index t 0 ∧ win0_16.index t 1 = win0_0.index t 1 ∧ win0_16.index t 2 = 0) := by
  decide +kernel

/-- What the rows share, as the body reads it, is the arguments'. -/
theorem shared_eq (t : Fin cfg0.N) :
    shared (iblk m c 1 t) (iblk m c 2 t) (iblk m c 3 t) (iblk m c 4 t) (iblk m c 5 t) = (args m c).P := by
  obtain ⟨⟨a0, a1⟩, ⟨b0, b1⟩, ⟨c0, c1⟩, ⟨d0, d1⟩, e0, e1⟩ := shared_facts t
  ext k
  · show V m c main_v0 ((win0_1.blk t).view.emb (ix2 0 k)) = _
    rw [V_gin]
    refine congrArg (args m c).P.gin (Fin.ext ?_)
    blk_simp [a0, a1]
  · rename_i j
    show V m c main_arg2 ((win0_2.blk t).view.emb (ix2 k j)) = _
    rw [V_main_arg2]
    refine congrArg (m ((c : Thread nD τ).loc main_arg2)) ?_
    blk_ext [b0, b1]
  · show V m c main_v1 ((win0_3.blk t).view.emb (ix2 0 k)) = _
    rw [V_s]
    refine congrArg (args m c).P.s (Fin.ext ?_)
    blk_simp [c0, c1]
  · show V m c main_v2 ((win0_4.blk t).view.emb (ix2 0 k)) = _
    rw [V_gq]
    refine congrArg (args m c).P.gq (Fin.ext ?_)
    blk_simp [d0, d1]
  · show V m c main_v3 ((win0_5.blk t).view.emb (ix2 0 k)) = _
    rw [V_gk]
    refine congrArg (args m c).P.gk (Fin.ext ?_)
    blk_simp [e0, e1]

section At

variable (t : Fin cfg0.N) (r : Fin 128) (b : Fin 2) (s : Fin 512) (hb : b.val = win0_0.index t 0)
  (hs : s.val = win0_0.index t 1 * 128 + r.val)

include hb hs

/-- Row `r` of a block is row `s` of batch `b`. -/
theorem x_row : xrow (iblk m c 0 t) r = (args m c).xr b s := by
  obtain ⟨⟨-, -, h2⟩, -⟩ := row_facts t
  funext k
  show V m c main_arg0 ((win0_0.blk t).view.emb (ix3 0 r k)) = _
  rw [V_main_arg0]
  refine congrArg (args m c).x (eq_ix3_of _ _ _ _ ?_ ?_ ?_)
  · blk_simp [hb]
    rfl
  · blk_simp [hs]
  · blk_simp [h2]

theorem cos_row : trow (iblk m c 6 t) r = (args m c).cr b s := by
  obtain ⟨-, ⟨h0, h1, h2⟩, -⟩ := row_facts t
  funext k
  show V m c main_arg6 ((win0_6.blk t).view.emb (ix3 0 r k)) = _
  rw [V_main_arg6]
  refine congrArg (args m c).cos (eq_ix3_of _ _ _ _ ?_ ?_ ?_)
  · blk_simp [hb, h0]
    rfl
  · blk_simp [hs, h1]
  · blk_simp [h2]

theorem sin_row : trow (iblk m c 7 t) r = (args m c).sr b s := by
  obtain ⟨-, -, h0, h1, h2⟩ := row_facts t
  funext k
  show V m c main_arg7 ((win0_7.blk t).view.emb (ix3 0 r k)) = _
  rw [V_main_arg7]
  refine congrArg (args m c).sin (eq_ix3_of _ _ _ _ ?_ ?_ ?_)
  · blk_simp [hb, h0]
    rfl
  · blk_simp [hs, h1]
  · blk_simp [h2]

end At

/-- Row `r` of a block among all the rows. -/
theorem x_flat (t : Fin cfg0.N) (r : Fin 128) (n : ℕ) (hn : n < 1024) (e : n = win0_0.index t 0 * 512 + win0_0.index t 1 * 128 + r.val) :
    xrow (iblk m c 0 t) r = flatRow (args m c).x n hn := by
  obtain ⟨⟨l0, l1, -⟩, -⟩ := row_facts t
  have hr := r.isLt
  exact x_row m c t r ⟨n / 512, by omega⟩ ⟨n % 512, by omega⟩ (by show n / 512 = _; omega) (by show n % 512 = _; omega)

/-- The codes' array. -/
theorem final_codes : (dats m 0 c).arrAt 8 cfg0.N = (args m c).codes := by
  refine (dats m 0 c).arrAt_eq_of_covers 8 _ (by decide +kernel) fun t hf y => ?_
  obtain ⟨⟨h0, h1, h2⟩, -⟩ := out_facts t
  blk_simp
  rw [after0_8]
  rw [out8_at, shared_eq, x_row m c t (y 1) ((win0_8.blk t).view.emb y 0) ((win0_8.blk t).view.emb y 1)
    (by blk_simp [h0]) (by blk_simp [h1])]
  exact congrArg (code8 _) (Fin.ext (by blk_simp [h2]))

/-- The scales' array. -/
theorem final_scales : (dats m 0 c).arrAt 9 cfg0.N = (args m c).scales := by
  refine (dats m 0 c).arrAt_eq_of_covers 9 _ (by decide +kernel) fun t hf y => ?_
  obtain ⟨-, ⟨h0, h1, h2⟩, -⟩ := out_facts t
  blk_simp
  rw [after0_9]
  have e : (((win0_9.blk t).view.emb y 0 : Fin 8) : ℕ) * 128 + (((win0_9.blk t).view.emb y 2 : Fin 128) : ℕ)
      = win0_0.index t 0 * 512 + win0_0.index t 1 * 128 + (y 2).val := by
    blk_simp [h0, h2]
    idx_bounds y
    show ((_ : ℕ) * 128 + _ : ℕ) = _
    omega
  rw [out9_at, shared_eq, x_flat m c t (y 2) _ (tile_lt ((win0_9.blk t).view.emb y 0) ((win0_9.blk t).view.emb y 2)) e]
  rfl

/-- The query heads' array. -/
theorem final_qt : (dats m 0 c).arrAt 10 cfg0.N = (args m c).qt := by
  refine (dats m 0 c).arrAt_eq_of_covers 10 _ (by decide +kernel) fun t hf y => ?_
  obtain ⟨-, -, ⟨h0, h1, h2, h3⟩, -⟩ := out_facts t
  blk_simp
  rw [after0_10]
  obtain ⟨z, h, k, r, rfl⟩ : ∃ (z : Fin 1) (h : Fin 8) (k r : Fin 128), y = ix4 z h k r := ⟨_, _, _, _, eq_ix4 y⟩
  have hb : ((win0_10.blk t).view.emb (ix4 z h k r) 0).val = win0_0.index t 0 := by
    blk_simp [h0]
  have hs : ((win0_10.blk t).view.emb (ix4 z h k r) 3).val = win0_0.index t 1 * 128 + r.val := by blk_simp [h3]
  have e1 : h = (win0_10.blk t).view.emb (ix4 z h k r) 1 := Fin.ext (by blk_simp [h1])
  have e2 : k = (win0_10.blk t).view.emb (ix4 z h k r) 2 := Fin.ext (by blk_simp [h2])
  rw [out10_at, shared_eq, x_row m c t r _ _ hb hs, cos_row m c t r _ _ hb hs, sin_row m c t r _ _ hb hs]
  exact congrArg₂ (fun h k => (args m c).P.q _ _ _ h k) e1 e2

/-- The key codes' array, head by head. -/
theorem final_kn : (dats m 0 c).arrAt 11 cfg0.N = (args m c).kn := by
  refine (dats m 0 c).arrAt_eq_of_covers 11 _ (by decide +kernel) fun t hf y => ?_
  obtain ⟨-, -, -, ⟨h0, h1, h2, h3⟩, -⟩ := out_facts t
  blk_simp
  rw [after0_11]
  obtain ⟨z, h, r, k, rfl⟩ : ∃ (z : Fin 1) (h : Fin 4) (r k : Fin 128), y = ix4 z h r k := ⟨_, _, _, _, eq_ix4 y⟩
  have hb : ((win0_11.blk t).view.emb (ix4 z h r k) 0).val = win0_0.index t 0 := by
    blk_simp [h0]
  have hs : ((win0_11.blk t).view.emb (ix4 z h r k) 2).val = win0_0.index t 1 * 128 + r.val := by blk_simp [h2]
  have e1 : h = (win0_11.blk t).view.emb (ix4 z h r k) 1 := Fin.ext (by blk_simp [h1])
  have e2 : k = (win0_11.blk t).view.emb (ix4 z h r k) 3 := Fin.ext (by blk_simp [h3])
  rw [out11_at, shared_eq, x_row m c t r _ _ hb hs, cos_row m c t r _ _ hb hs, sin_row m c t r _ _ hb hs]
  exact congrArg₂ (fun h k => codeB ((args m c).P.k _ _ _ h) k) e1 e2

/-- The value codes' array, head by head. -/
theorem final_vn : (dats m 0 c).arrAt 12 cfg0.N = (args m c).vn := by
  refine (dats m 0 c).arrAt_eq_of_covers 12 _ (by decide +kernel) fun t hf y => ?_
  obtain ⟨-, -, -, -, ⟨h0, h1, h2, h3⟩, -⟩ := out_facts t
  blk_simp
  rw [after0_12]
  obtain ⟨z, h, r, k, rfl⟩ : ∃ (z : Fin 1) (h : Fin 4) (r k : Fin 128), y = ix4 z h r k := ⟨_, _, _, _, eq_ix4 y⟩
  have hb : ((win0_12.blk t).view.emb (ix4 z h r k) 0).val = win0_0.index t 0 := by
    blk_simp [h0]
  have hs : ((win0_12.blk t).view.emb (ix4 z h r k) 2).val = win0_0.index t 1 * 128 + r.val := by blk_simp [h2]
  have e1 : h = (win0_12.blk t).view.emb (ix4 z h r k) 1 := Fin.ext (by blk_simp [h1])
  have e2 : k = (win0_12.blk t).view.emb (ix4 z h r k) 3 := Fin.ext (by blk_simp [h3])
  rw [out12_at, shared_eq, x_row m c t r _ _ hb hs]
  exact congrArg₂ (fun h k => codeB ((args m c).P.v _ h) k) e1 e2

/-- The key codes' array, row by row. -/
theorem final_kc : (dats m 0 c).arrAt 13 cfg0.N = (args m c).kc := by
  refine (dats m 0 c).arrAt_eq_of_covers 13 _ (by decide +kernel) fun t hf y => ?_
  obtain ⟨-, -, -, -, -, ⟨h0, h1, h2, h3⟩, -⟩ := out_facts t
  blk_simp
  rw [after0_13]
  obtain ⟨z, r, h, k, rfl⟩ : ∃ (z : Fin 1) (r : Fin 128) (h : Fin 4) (k : Fin 128), y = ix4 z r h k := ⟨_, _, _, _, eq_ix4 y⟩
  have hb : ((win0_13.blk t).view.emb (ix4 z r h k) 0).val = win0_0.index t 0 := by
    blk_simp [h0]
  have hs : ((win0_13.blk t).view.emb (ix4 z r h k) 1).val = win0_0.index t 1 * 128 + r.val := by blk_simp [h1]
  have e1 : h = (win0_13.blk t).view.emb (ix4 z r h k) 2 := Fin.ext (by blk_simp [h2])
  have e2 : k = (win0_13.blk t).view.emb (ix4 z r h k) 3 := Fin.ext (by blk_simp [h3])
  rw [out13_at, shared_eq, x_row m c t r _ _ hb hs, cos_row m c t r _ _ hb hs, sin_row m c t r _ _ hb hs]
  exact congrArg₂ (fun h k => codeB ((args m c).P.k _ _ _ h) k) e1 e2

/-- The value codes' array, row by row. -/
theorem final_vc : (dats m 0 c).arrAt 14 cfg0.N = (args m c).vc := by
  refine (dats m 0 c).arrAt_eq_of_covers 14 _ (by decide +kernel) fun t hf y => ?_
  obtain ⟨-, -, -, -, -, -, ⟨h0, h1, h2, h3⟩, -⟩ := out_facts t
  blk_simp
  rw [after0_14]
  obtain ⟨z, r, h, k, rfl⟩ : ∃ (z : Fin 1) (r : Fin 128) (h : Fin 4) (k : Fin 128), y = ix4 z r h k := ⟨_, _, _, _, eq_ix4 y⟩
  have hb : ((win0_14.blk t).view.emb (ix4 z r h k) 0).val = win0_0.index t 0 := by
    blk_simp [h0]
  have hs : ((win0_14.blk t).view.emb (ix4 z r h k) 1).val = win0_0.index t 1 * 128 + r.val := by blk_simp [h1]
  have e1 : h = (win0_14.blk t).view.emb (ix4 z r h k) 2 := Fin.ext (by blk_simp [h2])
  have e2 : k = (win0_14.blk t).view.emb (ix4 z r h k) 3 := Fin.ext (by blk_simp [h3])
  rw [out14_at, shared_eq, x_row m c t r _ _ hb hs]
  exact congrArg₂ (fun h k => codeB ((args m c).P.v _ h) k) e1 e2

/-- The key scales' array. -/
theorem final_ks : (dats m 0 c).arrAt 15 cfg0.N = (args m c).ks := by
  refine (dats m 0 c).arrAt_eq_of_covers 15 _ (by decide +kernel) fun t hf y => ?_
  obtain ⟨-, -, -, -, -, -, -, ⟨h0, h1, h2⟩, -⟩ := out_facts t
  blk_simp
  rw [after0_15]
  obtain ⟨z, r, h, rfl⟩ : ∃ (z : Fin 1) (r : Fin 128) (h : Fin 4), y = ix3 z r h := ⟨_, _, _, eq_ix3 y⟩
  have hb : ((win0_15.blk t).view.emb (ix3 z r h) 0).val = win0_0.index t 0 := by
    blk_simp [h0]
  have hs : ((win0_15.blk t).view.emb (ix3 z r h) 1).val = win0_0.index t 1 * 128 + r.val := by blk_simp [h1]
  have e1 : h = (win0_15.blk t).view.emb (ix3 z r h) 2 := Fin.ext (by blk_simp [h2])
  rw [out15_at, shared_eq, x_row m c t r _ _ hb hs, cos_row m c t r _ _ hb hs, sin_row m c t r _ _ hb hs]
  exact congrArg (fun h => scale topI ((args m c).P.k _ _ _ h)) e1

/-- The value scales' array. -/
theorem final_vs : (dats m 0 c).arrAt 16 cfg0.N = (args m c).vs := by
  refine (dats m 0 c).arrAt_eq_of_covers 16 _ (by decide +kernel) fun t hf y => ?_
  obtain ⟨-, -, -, -, -, -, -, -, h0, h1, h2⟩ := out_facts t
  blk_simp
  rw [after0_16]
  obtain ⟨z, r, h, rfl⟩ : ∃ (z : Fin 1) (r : Fin 128) (h : Fin 4), y = ix3 z r h := ⟨_, _, _, eq_ix3 y⟩
  have hb : ((win0_16.blk t).view.emb (ix3 z r h) 0).val = win0_0.index t 0 := by
    blk_simp [h0]
  have hs : ((win0_16.blk t).view.emb (ix3 z r h) 1).val = win0_0.index t 1 * 128 + r.val := by blk_simp [h1]
  have e1 : h = (win0_16.blk t).view.emb (ix3 z r h) 2 := Fin.ext (by blk_simp [h2])
  rw [out16_at, shared_eq, x_row m c t r _ _ hb hs]
  exact congrArg (fun h => scale topI ((args m c).P.v _ h)) e1

/-- The run, read: the nine results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = (args m c).codes
      ∧ r.2.mem ((c : Thread nD τ).loc main_v4_1) = (args m c).scales
      ∧ r.2.mem ((c : Thread nD τ).loc main_v4_2) = (args m c).qt
      ∧ r.2.mem ((c : Thread nD τ).loc main_v4_3) = (args m c).kn
      ∧ r.2.mem ((c : Thread nD τ).loc main_v4_4) = (args m c).vn
      ∧ r.2.mem ((c : Thread nD τ).loc main_v4_5) = (args m c).kc
      ∧ r.2.mem ((c : Thread nD τ).loc main_v4_6) = (args m c).vc
      ∧ r.2.mem ((c : Thread nD τ).loc main_v4_7) = (args m c).ks
      ∧ r.2.mem ((c : Thread nD τ).loc main_v4_8) = (args m c).vs
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h c).1 8).trans (final_codes m c),
    ((h c).1 9).trans (final_scales m c),
    ((h c).1 10).trans (final_qt m c),
    ((h c).1 11).trans (final_kn m c),
    ((h c).1 12).trans (final_vn m c),
    ((h c).1 13).trans (final_kc m c),
    ((h c).1 14).trans (final_vc m c),
    ((h c).1 15).trans (final_ks m c),
    ((h c).1 16).trans (final_vs m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c)))⟩) (run_main m ρ)

end Cert.ProjInIdeal.Rows

end
-- ==== Proof.InRef.lean ====
/-
  The input projection's reference, on all 1024 rows at once: every payload of its body read at an index, as the row
  functions of `InSpec.lean`. Row `512 b + t` of the flat arrays is row `t` of batch `b`; the heads are an axis of the
  projected rows.
-/
module

public import proofs.«01_k».proof.Proof.Gen.ProjInRefIdeal.Skeleton
public import proofs.«01_k».proof.Proof.Ops
public import proofs.«01_k».proof.Proof.InSpec

@[expose] public section

set_option maxRecDepth 16384

noncomputable section

open Idealize.ShloMosaic Idealize.ShloMosaic.TcCoe Idealize.SL.Sem

namespace Cert.Rows

variable {S : Shape}

/-- A quotient times a gain. -/
theorem quot_gain (p q g : Vec Ideal S .f32) (j : S.Idx) :
    mulf (F := Ideal) (φ := .f32) (divf (F := Ideal) (φ := .f32) p q) g j = Ideal.div (p j) (q j) * g j := rfl

/-- The two halves of a turned row. -/
theorem turn_lo (a c b s : Vec Ideal S .f32) (j : S.Idx) :
    subf (F := Ideal) (φ := .f32) (mulf (F := Ideal) (φ := .f32) a c) (mulf (F := Ideal) (φ := .f32) b s) j = a j * c j - b j * s j := rfl
theorem turn_hi (a c b s : Vec Ideal S .f32) (j : S.Idx) :
    addf (F := Ideal) (φ := .f32) (mulf (F := Ideal) (φ := .f32) a c) (mulf (F := Ideal) (φ := .f32) b s) j = a j * c j + b j * s j := rfl

/-- A quotient rounded to even, clipped and made an integer. -/
theorem round_div (top bot : EReal) (a b : Vec Ideal S .f32) (j : S.Idx) :
    fptosi (F := Ideal) (φ := .f32) 8 (minimumf (F := Ideal) (φ := .f32) (broadcast S top) (maximumf (F := Ideal) (φ := .f32) (broadcast S bot)
        (roundeven (F := Ideal) (φ := .f32) (divf (F := Ideal) (φ := .f32) a b)))) j
      = Ideal.fptosi 8 (min top (max bot (Ideal.liftRound Ideal.roundHalfEven (Ideal.div (a j) (b j))))) := rfl

end Cert.Rows

namespace Cert.ProjInRefIdeal.Rows

open Cert.ProjInRefIdeal Cert.ProjInRefIdeal.Gen Cert.Rows

/-- Row `t` of batch `b`, among all the rows. -/
abbrev fl (b : Fin 2) (t : Fin 512) : Fin 1024 := ⟨b.val * 512 + t.val, by omega⟩
/-- Row `r` of `x`; of the cosines or sines. -/
abbrev xrow (x0 : Vec Ideal S1024x5376 .bf16) (r : Fin 1024) : Fin 5376 → EReal := fun k => x0 (ix2 r k)
abbrev trow (c : Vec Ideal S2x512x64 .f32) (b : Fin 2) (t : Fin 512) : Fin 64 → EReal := fun k => c (ix3 b t k)
/-- The gain of a head's entries. -/
abbrev gain (g : Vec Ideal S1x128 .f32) : Fin 128 → EReal := fun k => g (ix2 0 k)

/-- What the rows share, as the body reads it. -/
abbrev shared (gi : Vec Ideal S1x5376 .f32) (w : Vec Ideal S5376x2048 .fp8e4m3) (s : Vec Ideal S1x2048 .f32)
    (gq gk : Vec Ideal S1x128 .f32) : Shared :=
  ⟨fun k => gi (ix2 0 k), fun k j => w (ix2 k j), fun j => s (ix2 0 j), gain gq, gain gk⟩

/-! ## The rows normalised, quantised and projected -/

theorem squares_at (v : Vec Ideal S1024x5376 .f32) (r : Fin 1024) (z : Fin 1) :
    shapeCast S1024x1 (multiReduction .add [1] S1024 (mulf (F := Ideal) v v) 0x00000000#32 reduces_S1024x5376_S1024 (.inl rfl) rfl)
        shapeCasts_S1024_S1024x1 (ix2 r z) = ∑ k : Fin 5376, v (ix2 r k) * v (ix2 r k) := by
  pointwise

theorem absmax_at (v : Vec Ideal S1024x5376 .f32) (r : Fin 1024) (z : Fin 1) :
    shapeCast S1024x1 (multiReduction .maximumf [1] S1024 (absf (F := Ideal) v) 0xFF800000#32 reduces_S1024x5376_S1024 (.inl rfl) rfl)
        shapeCasts_S1024_S1024x1 (ix2 r z) = absmax (fun k => v (ix2 r k)) := by
  generalize hR : absmax (fun k => v (ix2 r k)) = R
  pointwise
  exact hR

theorem column_at (s : Vec Ideal S1024x1 .f32) (r : Fin 1024) (k : Fin 5376) :
    broadcastTo S1024x5376 s broadcasts_S1024x1_S1024x5376 (ix2 r k) = s (ix2 r 0) := by
  pointwise
theorem row_at (s : Vec Ideal S1x5376 .f32) (r : Fin 1024) (k : Fin 5376) :
    broadcastTo S1024x5376 s broadcasts_S1x5376_S1024x5376 (ix2 r k) = s (ix2 0 k) := by
  pointwise
theorem column'_at (s : Vec Ideal S1024x1 .f32) (r : Fin 1024) (k : Fin 2048) :
    broadcastTo S1024x2048 s broadcasts_S1024x1_S1024x2048 (ix2 r k) = s (ix2 r 0) := by
  pointwise
theorem row'_at (s : Vec Ideal S1x2048 .f32) (r : Fin 1024) (k : Fin 2048) :
    broadcastTo S1024x2048 s broadcasts_S1x2048_S1024x2048 (ix2 r k) = s (ix2 0 k) := by
  pointwise

section Row

variable (x0 : Vec Ideal S1024x5376 .bf16) (gi : Vec Ideal S1x5376 .f32) (w : Vec Ideal S5376x2048 .fp8e4m3) (s : Vec Ideal S1x2048 .f32)

/-- The normalised rows. -/
theorem xn_at (r : Fin 1024) (k : Fin 5376) :
    k0_pay3 x0 gi (ix2 r k) = normed wide (xrow x0 r) (fun k => gi (ix2 0 k)) k := by
  refine (quot_gain _ _ _ _).trans ?_
  rw [column_at, row_at, rms_column, squares_at, shapeCast_self, shapeCast_self]
  rfl

theorem xn_row (r : Fin 1024) : (fun k => k0_pay3 x0 gi (ix2 r k)) = normed wide (xrow x0 r) (fun k => gi (ix2 0 k)) :=
  funext fun k => xn_at x0 gi r k

theorem scale_at (r : Fin 1024) (z : Fin 1) :
    k0_pay4 x0 gi (ix2 r z) = scale top8 (normed wide (xrow x0 r) (fun k => gi (ix2 0 k))) := by
  refine (scale_column _ _ _).trans ?_
  rw [absmax_at, xn_row]
  rfl

theorem codes_at (r : Fin 1024) (k : Fin 5376) :
    k0_pay5 x0 gi (ix2 r k) = code8 (normed wide (xrow x0 r) (fun k => gi (ix2 0 k))) k := by
  refine (clip_div _ _ _ _ _ _).trans ?_
  rw [column_at, scale_at, xn_at]
  rfl

theorem by_batch_at (v : Vec Ideal S1024x5376 .fp8e4m3) (b : Fin 2) (t : Fin 512) (k : Fin 5376) :
    shapeCast S2x512x5376 v shapeCasts_S1024x5376_S2x512x5376 (ix3 b t k) = v (ix2 (fl b t) k) := by
  pointwise

theorem by_tile_at (v : Vec Ideal S1024x1 .f32) (i : Fin 8) (z : Fin 1) (r : Fin 128) :
    shapeCast S8x1x128 v shapeCasts_S1024x1_S8x1x128 (ix3 i z r) = v (ix2 ⟨i.val * 128 + r.val, by omega⟩ 0) := by
  pointwise

/-- The stored codes, by batch and row. -/
theorem stored_codes_at (b : Fin 2) (t : Fin 512) (k : Fin 5376) :
    k0_pay6 x0 gi (ix3 b t k) = code8 (normed wide (xrow x0 (fl b t)) (fun k => gi (ix2 0 k))) k := by
  unfold k0_pay6
  rw [by_batch_at, codes_at]

/-- The stored scales, by tile of 128 rows. -/
theorem stored_scales_at (i : Fin 8) (z : Fin 1) (r : Fin 128) :
    k0_pay7 x0 gi (ix3 i z r) = scale top8 (normed wide (xrow x0 ⟨i.val * 128 + r.val, by omega⟩) (fun k => gi (ix2 0 k))) := by
  unfold k0_pay7
  rw [by_tile_at, scale_at]

theorem product_at (a : Vec Ideal S1024x5376 .fp8e4m3) (r : Fin 1024) (j : Fin 2048) :
    matmul (F := Ideal) (φ₁ := .fp8e4m3) (φ₂ := .fp8e4m3) dot_S1024x5376_S5376x2048_S1024x2048_1_0_0_1_n_n none a w (constant (F := Ideal) S1024x2048 .f32 0x00000000#32) (ix2 r j)
      = ∑ k : Fin 5376, a (ix2 r k) * w (ix2 k j) := by
  pointwise

theorem by_head_at (v : Vec Ideal S1024x2048 .f32) (b : Fin 2) (t : Fin 512) (h : Fin 16) (k : Fin 128) :
    shapeCast S2x512x16x128 v shapeCasts_S1024x2048_S2x512x16x128 (ix4 b t h k) = v (ix2 (fl b t) ⟨h.val * 128 + k.val, by omega⟩) := by
  pointwise

/-- The projected rows, by head. -/
theorem proj_at (b : Fin 2) (t : Fin 512) (h : Fin 16) (k : Fin 128) :
    k0_pay8 (k0_pay4 x0 gi) (k0_pay5 x0 gi) w s (ix4 b t h k)
      = headRow (projected (normed wide (xrow x0 (fl b t)) (fun k => gi (ix2 0 k))) (fun k j => w (ix2 k j)) (fun j => s (ix2 0 j))) h k := by
  unfold k0_pay8
  rw [by_head_at]
  refine (mul_mul_apply _ _ _ _).trans ?_
  rw [product_at, column'_at, row'_at, shapeCast_self, scale_at]
  simp only [codes_at]
  rfl

end Row

/-! ## Eight heads, and four -/

theorem squares8_at (T : Vec Ideal S2x512x8x128 .f32) (b : Fin 2) (t : Fin 512) (h : Fin 8) (z : Fin 1) :
    shapeCast S2x512x8x1 (multiReduction .add [3] S2x512x8 (mulf (F := Ideal) T T) 0x00000000#32 reduces_S2x512x8x128_S2x512x8 (.inl rfl) rfl)
        shapeCasts_S2x512x8_S2x512x8x1 (ix4 b t h z) = ∑ k : Fin 128, T (ix4 b t h k) * T (ix4 b t h k) := by
  pointwise
theorem squares4_at (T : Vec Ideal S2x512x4x128 .f32) (b : Fin 2) (t : Fin 512) (h : Fin 4) (z : Fin 1) :
    shapeCast S2x512x4x1 (multiReduction .add [3] S2x512x4 (mulf (F := Ideal) T T) 0x00000000#32 reduces_S2x512x4x128_S2x512x4 (.inl rfl) rfl)
        shapeCasts_S2x512x4_S2x512x4x1 (ix4 b t h z) = ∑ k : Fin 128, T (ix4 b t h k) * T (ix4 b t h k) := by
  pointwise
theorem absmax4_at (T : Vec Ideal S2x512x4x128 .f32) (b : Fin 2) (t : Fin 512) (h : Fin 4) (z : Fin 1) :
    shapeCast S2x512x4x1 (multiReduction .maximumf [3] S2x512x4 (absf (F := Ideal) T) 0xFF800000#32 reduces_S2x512x4x128_S2x512x4 (.inl rfl) rfl)
        shapeCasts_S2x512x4_S2x512x4x1 (ix4 b t h z) = absmax (fun k => T (ix4 b t h k)) := by
  generalize hR : absmax (fun k => T (ix4 b t h k)) = R
  pointwise
  exact hR

theorem column8_at (s : Vec Ideal S2x512x8x1 .f32) (b : Fin 2) (t : Fin 512) (h : Fin 8) (k : Fin 128) :
    broadcastTo S2x512x8x128 s broadcasts_S2x512x8x1_S2x512x8x128 (ix4 b t h k) = s (ix4 b t h 0) := by
  pointwise
theorem column4_at (s : Vec Ideal S2x512x4x1 .f32) (b : Fin 2) (t : Fin 512) (h : Fin 4) (k : Fin 128) :
    broadcastTo S2x512x4x128 s broadcasts_S2x512x4x1_S2x512x4x128 (ix4 b t h k) = s (ix4 b t h 0) := by
  pointwise

theorem gain8_at (g : Vec Ideal S1x128 .f32) (b : Fin 2) (t : Fin 512) (h : Fin 8) (k : Fin 128) :
    broadcastTo S2x512x8x128 (shapeCast S1x1x1x128 g shapeCasts_S1x128_S1x1x1x128) broadcasts_S1x1x1x128_S2x512x8x128 (ix4 b t h k) = gain g k := by
  pointwise
theorem gain4_at (g : Vec Ideal S1x128 .f32) (b : Fin 2) (t : Fin 512) (h : Fin 4) (k : Fin 128) :
    broadcastTo S2x512x4x128 (shapeCast S1x1x1x128 g shapeCasts_S1x128_S1x1x1x128) broadcasts_S1x1x1x128_S2x512x4x128 (ix4 b t h k) = gain g k := by
  pointwise

theorem lo8_at (v : Vec Ideal S2x512x8x128 .f32) (b : Fin 2) (t : Fin 512) (h : Fin 8) (k : Fin 64) :
    extractStridedSlice S2x512x8x64 ![0, 0, 0, 0] v slices_S2x512x8x128_o0_0_0_0_S2x512x8x64 (ix4 b t h k) = v (ix4 b t h ⟨k.val, by omega⟩) := by
  pointwise
theorem lo4_at (v : Vec Ideal S2x512x4x128 .f32) (b : Fin 2) (t : Fin 512) (h : Fin 4) (k : Fin 64) :
    extractStridedSlice S2x512x4x64 ![0, 0, 0, 0] v slices_S2x512x4x128_o0_0_0_0_S2x512x4x64 (ix4 b t h k) = v (ix4 b t h ⟨k.val, by omega⟩) := by
  pointwise
theorem hi8_at (v : Vec Ideal S2x512x8x128 .f32) (b : Fin 2) (t : Fin 512) (h : Fin 8) (k : Fin 64) :
    extractStridedSlice S2x512x8x64 ![0, 0, 0, 64] v slices_S2x512x8x128_o0_0_0_64_S2x512x8x64 (ix4 b t h k) = v (ix4 b t h ⟨64 + k.val, by omega⟩) := by
  pointwise
theorem hi4_at (v : Vec Ideal S2x512x4x128 .f32) (b : Fin 2) (t : Fin 512) (h : Fin 4) (k : Fin 64) :
    extractStridedSlice S2x512x4x64 ![0, 0, 0, 64] v slices_S2x512x4x128_o0_0_0_64_S2x512x4x64 (ix4 b t h k) = v (ix4 b t h ⟨64 + k.val, by omega⟩) := by
  pointwise

theorem angle8_at (c : Vec Ideal S2x512x64 .f32) (b : Fin 2) (t : Fin 512) (h : Fin 8) (k : Fin 64) :
    broadcastTo S2x512x8x64 (shapeCast S2x512x1x64 c shapeCasts_S2x512x64_S2x512x1x64) broadcasts_S2x512x1x64_S2x512x8x64 (ix4 b t h k) = trow c b t k := by
  pointwise
theorem angle4_at (c : Vec Ideal S2x512x64 .f32) (b : Fin 2) (t : Fin 512) (h : Fin 4) (k : Fin 64) :
    broadcastTo S2x512x4x64 (shapeCast S2x512x1x64 c shapeCasts_S2x512x64_S2x512x1x64) broadcasts_S2x512x1x64_S2x512x4x64 (ix4 b t h k) = trow c b t k := by
  pointwise

theorem halves8_at (u v : Vec Ideal S2x512x8x64 .f32) (b : Fin 2) (t : Fin 512) (h : Fin 8) (k : Fin 128) :
    concatenate S2x512x8x128 3 [⟨S2x512x8x64, u⟩, ⟨S2x512x8x64, v⟩] concatenates_S2x512x8x64_S2x512x8x64_S2x512x8x128_d3 (ix4 b t h k)
      = if hk : k.val < 64 then u (ix4 b t h ⟨k.val, hk⟩) else v (ix4 b t h ⟨k.val - 64, by omega⟩) := by
  pointwise
theorem halves4_at (u v : Vec Ideal S2x512x4x64 .f32) (b : Fin 2) (t : Fin 512) (h : Fin 4) (k : Fin 128) :
    concatenate S2x512x4x128 3 [⟨S2x512x4x64, u⟩, ⟨S2x512x4x64, v⟩] concatenates_S2x512x4x64_S2x512x4x64_S2x512x4x128_d3 (ix4 b t h k)
      = if hk : k.val < 64 then u (ix4 b t h ⟨k.val, hk⟩) else v (ix4 b t h ⟨k.val - 64, by omega⟩) := by
  pointwise

/-- Heads normalised. -/
def norm8 (T : FVec Ideal S2x512x8x128 .f32) (g : FVec Ideal S1x128 .f32) : FVec Ideal S2x512x8x128 .f32 :=
  mulf (divf T (broadcastTo S2x512x8x128 (sqrt (addf (divf
      (shapeCast S2x512x8x1 (multiReduction .add [3] S2x512x8 (mulf T T) 0x00000000#32 reduces_S2x512x8x128_S2x512x8 (.inl rfl) rfl) shapeCasts_S2x512x8_S2x512x8x1)
      (broadcast S2x512x8x1 (Scalar.ofBits .f32 0x43000000#32))) (broadcast S2x512x8x1 (Scalar.ofBits .f32 0x358637BD#32)))) broadcasts_S2x512x8x1_S2x512x8x128))
    (broadcastTo S2x512x8x128 (shapeCast S1x1x1x128 (shapeCast S1x128 g shapeCasts_S1x128_S1x128) shapeCasts_S1x128_S1x1x1x128) broadcasts_S1x1x1x128_S2x512x8x128)
def norm4 (T : FVec Ideal S2x512x4x128 .f32) (g : FVec Ideal S1x128 .f32) : FVec Ideal S2x512x4x128 .f32 :=
  mulf (divf T (broadcastTo S2x512x4x128 (sqrt (addf (divf
      (shapeCast S2x512x4x1 (multiReduction .add [3] S2x512x4 (mulf T T) 0x00000000#32 reduces_S2x512x4x128_S2x512x4 (.inl rfl) rfl) shapeCasts_S2x512x4_S2x512x4x1)
      (broadcast S2x512x4x1 (Scalar.ofBits .f32 0x43000000#32))) (broadcast S2x512x4x1 (Scalar.ofBits .f32 0x358637BD#32)))) broadcasts_S2x512x4x1_S2x512x4x128))
    (broadcastTo S2x512x4x128 (shapeCast S1x1x1x128 (shapeCast S1x128 g shapeCasts_S1x128_S1x128) shapeCasts_S1x128_S1x1x1x128) broadcasts_S1x1x1x128_S2x512x4x128)

theorem norm8_at (T : Vec Ideal S2x512x8x128 .f32) (g : Vec Ideal S1x128 .f32) (b : Fin 2) (t : Fin 512) (h : Fin 8) (k : Fin 128) :
    norm8 T g (ix4 b t h k) = normed narrow (fun k => T (ix4 b t h k)) (gain g) k := by
  refine (quot_gain _ _ _ _).trans ?_
  rw [column8_at, gain8_at, rms_column, squares8_at, shapeCast_self]
  rfl
theorem norm4_at (T : Vec Ideal S2x512x4x128 .f32) (g : Vec Ideal S1x128 .f32) (b : Fin 2) (t : Fin 512) (h : Fin 4) (k : Fin 128) :
    norm4 T g (ix4 b t h k) = normed narrow (fun k => T (ix4 b t h k)) (gain g) k := by
  refine (quot_gain _ _ _ _).trans ?_
  rw [column4_at, gain4_at, rms_column, squares4_at, shapeCast_self]
  rfl

/-- Heads turned by the rotary embedding. -/
def rope8 (N : FVec Ideal S2x512x8x128 .f32) (c s : FVec Ideal S2x512x64 .f32) : FVec Ideal S2x512x8x128 .f32 :=
  have a := extractStridedSlice S2x512x8x64 ![0, 0, 0, 0] N slices_S2x512x8x128_o0_0_0_0_S2x512x8x64
  have b := extractStridedSlice S2x512x8x64 ![0, 0, 0, 64] N slices_S2x512x8x128_o0_0_0_64_S2x512x8x64
  have C := broadcastTo S2x512x8x64 (shapeCast S2x512x1x64 c shapeCasts_S2x512x64_S2x512x1x64) broadcasts_S2x512x1x64_S2x512x8x64
  have S := broadcastTo S2x512x8x64 (shapeCast S2x512x1x64 s shapeCasts_S2x512x64_S2x512x1x64) broadcasts_S2x512x1x64_S2x512x8x64
  concatenate S2x512x8x128 3 [⟨S2x512x8x64, subf (mulf a C) (mulf b S)⟩, ⟨S2x512x8x64, addf (mulf b C) (mulf a S)⟩]
    concatenates_S2x512x8x64_S2x512x8x64_S2x512x8x128_d3
def rope4 (N : FVec Ideal S2x512x4x128 .f32) (c s : FVec Ideal S2x512x64 .f32) : FVec Ideal S2x512x4x128 .f32 :=
  have a := extractStridedSlice S2x512x4x64 ![0, 0, 0, 0] N slices_S2x512x4x128_o0_0_0_0_S2x512x4x64
  have b := extractStridedSlice S2x512x4x64 ![0, 0, 0, 64] N slices_S2x512x4x128_o0_0_0_64_S2x512x4x64
  have C := broadcastTo S2x512x4x64 (shapeCast S2x512x1x64 c shapeCasts_S2x512x64_S2x512x1x64) broadcasts_S2x512x1x64_S2x512x4x64
  have S := broadcastTo S2x512x4x64 (shapeCast S2x512x1x64 s shapeCasts_S2x512x64_S2x512x1x64) broadcasts_S2x512x1x64_S2x512x4x64
  concatenate S2x512x4x128 3 [⟨S2x512x4x64, subf (mulf a C) (mulf b S)⟩, ⟨S2x512x4x64, addf (mulf b C) (mulf a S)⟩]
    concatenates_S2x512x4x64_S2x512x4x64_S2x512x4x128_d3

/-- A turned head in halves is the turned head. -/
theorem rope_halves (n : Fin 128 → EReal) (c s : Fin 64 → EReal) (k : Fin 128) :
    (if hk : k.val < 64 then n ⟨k.val, by omega⟩ * c ⟨k.val, hk⟩ - n ⟨64 + k.val, by omega⟩ * s ⟨k.val, hk⟩
      else n ⟨64 + (k.val - 64), by omega⟩ * c ⟨k.val - 64, by omega⟩ + n ⟨k.val - 64, by omega⟩ * s ⟨k.val - 64, by omega⟩)
      = rope n c s k := by
  unfold rope
  split_ifs with hk
  · rw [show (⟨64 + k.val, by omega⟩ : Fin 128) = ⟨k.val + 64, by omega⟩ from Fin.ext (by show 64 + k.val = k.val + 64; omega)]
  · rw [show (⟨64 + (k.val - 64), by omega⟩ : Fin 128) = k from Fin.ext (by show 64 + (k.val - 64) = k.val; omega)]

theorem rope8_at (N : Vec Ideal S2x512x8x128 .f32) (c s : Vec Ideal S2x512x64 .f32) (b : Fin 2) (t : Fin 512) (h : Fin 8) (k : Fin 128) :
    rope8 N c s (ix4 b t h k) = rope (fun k => N (ix4 b t h k)) (trow c b t) (trow s b t) k := by
  refine (halves8_at _ _ b t h k).trans ?_
  refine Eq.trans ?_ (rope_halves (fun k => N (ix4 b t h k)) _ _ k)
  split_ifs with hk
  · rw [turn_lo, lo8_at, hi8_at, angle8_at, angle8_at]
  · rw [turn_hi, lo8_at, hi8_at, angle8_at, angle8_at]
theorem rope4_at (N : Vec Ideal S2x512x4x128 .f32) (c s : Vec Ideal S2x512x64 .f32) (b : Fin 2) (t : Fin 512) (h : Fin 4) (k : Fin 128) :
    rope4 N c s (ix4 b t h k) = rope (fun k => N (ix4 b t h k)) (trow c b t) (trow s b t) k := by
  refine (halves4_at _ _ b t h k).trans ?_
  refine Eq.trans ?_ (rope_halves (fun k => N (ix4 b t h k)) _ _ k)
  split_ifs with hk
  · rw [turn_lo, lo4_at, hi4_at, angle4_at, angle4_at]
  · rw [turn_hi, lo4_at, hi4_at, angle4_at, angle4_at]

/-- Four heads' scales and byte codes. -/
def scale4 (T : FVec Ideal S2x512x4x128 .f32) : FVec Ideal S2x512x4x1 .f32 :=
  have a := shapeCast S2x512x4x1 (multiReduction .maximumf [3] S2x512x4 (absf T) 0xFF800000#32 reduces_S2x512x4x128_S2x512x4 (.inl rfl) rfl) shapeCasts_S2x512x4_S2x512x4x1
  select (cmpf .oeq a (broadcast S2x512x4x1 (Scalar.ofBits .f32 0x00000000#32))) (broadcast S2x512x4x1 (Scalar.ofBits .f32 0x3F800000#32))
    (divf a (broadcast S2x512x4x1 (Scalar.ofBits .f32 0x42FE0000#32)))
def codes4 (T : FVec Ideal S2x512x4x128 .f32) : IVec S2x512x4x128 8 :=
  fptosi 8 (minimumf (broadcast S2x512x4x128 (Scalar.ofBits .f32 0x42FE0000#32)) (maximumf (broadcast S2x512x4x128 (Scalar.ofBits .f32 0xC2FE0000#32))
    (roundeven (divf T (broadcastTo S2x512x4x128 (scale4 T) broadcasts_S2x512x4x1_S2x512x4x128)))))

theorem scale4_at (T : Vec Ideal S2x512x4x128 .f32) (b : Fin 2) (t : Fin 512) (h : Fin 4) (z : Fin 1) :
    scale4 T (ix4 b t h z) = scale topI (fun k => T (ix4 b t h k)) := by
  refine (scale_column _ _ _).trans ?_
  rw [absmax4_at]
  rfl
theorem codes4_at (T : Vec Ideal S2x512x4x128 .f32) (b : Fin 2) (t : Fin 512) (h : Fin 4) (k : Fin 128) :
    codes4 T (ix4 b t h k) = codeB (fun k => T (ix4 b t h k)) k := by
  refine (round_div _ _ _ _ _).trans ?_
  rw [column4_at, scale4_at]
  rfl

end Cert.ProjInRefIdeal.Rows

end
-- ==== Proof.InRefValue.lean ====
/-
  The input projection's reference: its nine result arrays, whole. It has one grid point, whose blocks are the arrays; it
  reads `x` as 1024 flat rows, row `512 b + t` the row `t` of batch `b`.
-/
module

public import proofs.«01_k».proof.Proof.Gen.ProjInRefIdeal.Frame
public import proofs.«01_k».proof.Proof.InRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjInRefIdeal.Rows

open Cert.ProjInRefIdeal Cert.ProjInRefIdeal.Gen Cert.Rows

/-! ## The layout operations of the stores -/

theorem queries_at (v : Vec Ideal S2x512x16x128 .f32) (b : Fin 2) (t : Fin 512) (h : Fin 8) (k : Fin 128) :
    extractStridedSlice S2x512x8x128 ![0, 0, 0, 0] v slices_S2x512x16x128_o0_0_0_0_S2x512x8x128 (ix4 b t h k) = v (ix4 b t (qHead h) k) := by
  pointwise
theorem keys_at (v : Vec Ideal S2x512x16x128 .f32) (b : Fin 2) (t : Fin 512) (h : Fin 4) (k : Fin 128) :
    extractStridedSlice S2x512x4x128 ![0, 0, 8, 0] v slices_S2x512x16x128_o0_0_8_0_S2x512x4x128 (ix4 b t h k) = v (ix4 b t (kHead h) k) := by
  pointwise
theorem values_at (v : Vec Ideal S2x512x16x128 .f32) (b : Fin 2) (t : Fin 512) (h : Fin 4) (k : Fin 128) :
    extractStridedSlice S2x512x4x128 ![0, 0, 12, 0] v slices_S2x512x16x128_o0_0_12_0_S2x512x4x128 (ix4 b t h k) = v (ix4 b t (vHead h) k) := by
  pointwise
theorem rows_last_at (v : Vec Ideal S2x512x8x128 .f32) (b : Fin 2) (h : Fin 8) (k : Fin 128) (t : Fin 512) :
    @Eq EReal (k0_pay13 (F := Ideal) v (ix4 b h k t)) (v (ix4 b t h k)) := by
  pointwise [k0_pay13]
theorem heads_first_at (v : IVec S2x512x4x128 8) (b : Fin 2) (h : Fin 4) (t : Fin 512) (k : Fin 128) :
    transpose S2x4x512x128 [0, 2, 1, 3] v transposes_S2x512x4x128_p0_2_1_3_S2x4x512x128 (ix4 b h t k) = v (ix4 b t h k) := by
  pointwise
theorem scales_at (v : Vec Ideal S2x512x4x1 .f32) (b : Fin 2) (t : Fin 512) (h : Fin 4) :
    shapeCast S2x512x4 v shapeCasts_S2x512x4x1_S2x512x4 (ix3 b t h) = v (ix4 b t h 0) := by
  pointwise

/-! ## What the body leaves -/

section Block

variable (x0 : Vec Ideal S1024x5376 .bf16) (x1 : Vec Ideal S1x5376 .f32) (x2 : Vec Ideal S5376x2048 .fp8e4m3) (x3 : Vec Ideal S1x2048 .f32)
  (x4 x5 : Vec Ideal S1x128 .f32) (x6 x7 : Vec Ideal S2x512x64 .f32)

theorem ld0 : View.ld x0 r0_0 = x0 := View.ld_unit_lit' _ _ (by decide)
theorem ld1 : View.ld x1 r0_1 = x1 := View.ld_unit_lit' _ _ (by decide)
theorem ld2 : View.ld x2 r0_4 = x2 := View.ld_unit_lit' _ _ (by decide)
theorem ld3 : View.ld x3 r0_5 = x3 := View.ld_unit_lit' _ _ (by decide)
theorem ld4 : View.ld x4 r0_6 = x4 := View.ld_unit_lit' _ _ (by decide)
theorem ld6 : View.ld x6 r0_7 = x6 := View.ld_unit_lit' _ _ (by decide)

/-- The projected rows, by head. -/
def blockT : FVec Ideal S2x512x16x128 .f32 := k0_pay8 (k0_pay4 x0 x1) (k0_pay5 x0 x1) x2 x3
/-- The turned queries and keys, and the values. -/
def queryR : FVec Ideal S2x512x8x128 .f32 :=
  rope8 (norm8 (extractStridedSlice S2x512x8x128 ![0, 0, 0, 0] (blockT x0 x1 x2 x3) slices_S2x512x16x128_o0_0_0_0_S2x512x8x128) x4) x6 x7
def keyR : FVec Ideal S2x512x4x128 .f32 :=
  rope4 (norm4 (extractStridedSlice S2x512x4x128 ![0, 0, 8, 0] (blockT x0 x1 x2 x3) slices_S2x512x16x128_o0_0_8_0_S2x512x4x128) x5) x6 x7
def valueR : FVec Ideal S2x512x4x128 .f32 :=
  extractStridedSlice S2x512x4x128 ![0, 0, 12, 0] (blockT x0 x1 x2 x3) slices_S2x512x16x128_o0_0_12_0_S2x512x4x128

theorem blockT_row (b : Fin 2) (t : Fin 512) (h : Fin 16) :
    (fun k => blockT x0 x1 x2 x3 (ix4 b t h k)) = headRow ((shared x1 x2 x3 x4 x5).proj (xrow x0 (fl b t))) h :=
  funext fun k => proj_at x0 x1 x2 x3 b t h k

theorem queryR_row (b : Fin 2) (t : Fin 512) (h : Fin 8) :
    (fun k => queryR x0 x1 x2 x3 x4 x6 x7 (ix4 b t h k)) = (shared x1 x2 x3 x4 x5).q (xrow x0 (fl b t)) (trow x6 b t) (trow x7 b t) h := by
  unfold queryR
  simp only [rope8_at, norm8_at]
  rw [(funext fun k => queries_at _ b t h k).trans (blockT_row x0 x1 x2 x3 x4 x5 b t (qHead h))]
  rfl

theorem keyR_row (b : Fin 2) (t : Fin 512) (h : Fin 4) :
    (fun k => keyR x0 x1 x2 x3 x5 x6 x7 (ix4 b t h k)) = (shared x1 x2 x3 x4 x5).k (xrow x0 (fl b t)) (trow x6 b t) (trow x7 b t) h := by
  unfold keyR
  simp only [rope4_at, norm4_at]
  rw [(funext fun k => keys_at _ b t h k).trans (blockT_row x0 x1 x2 x3 x4 x5 b t (kHead h))]
  rfl

theorem valueR_row (b : Fin 2) (t : Fin 512) (h : Fin 4) :
    (fun k => valueR x0 x1 x2 x3 (ix4 b t h k)) = (shared x1 x2 x3 x4 x5).v (xrow x0 (fl b t)) h := by
  exact (funext fun k => values_at _ b t h k).trans (blockT_row x0 x1 x2 x3 x4 x5 b t (vHead h))

theorem out8_at (b : Fin 2) (t : Fin 512) (k : Fin 5376) :
    out0_8 x0 x1 x2 x3 x4 x5 x6 x7 (ix3 b t k) = code8 ((shared x1 x2 x3 x4 x5).xn (xrow x0 (fl b t))) k := by
  have h : out0_8 x0 x1 x2 x3 x4 x5 x6 x7 = k0_pay6 x0 x1 := by
    unfold out0_8
    rw [ld0, ld1]
    exact View.canon_cons_unit_lit' _ _ _ (by decide)
  rw [h]
  exact stored_codes_at x0 x1 b t k

theorem out9_at (i : Fin 8) (z : Fin 1) (r : Fin 128) :
    out0_9 x0 x1 x2 x3 x4 x5 x6 x7 (ix3 i z r) = scale top8 ((shared x1 x2 x3 x4 x5).xn (xrow x0 ⟨i.val * 128 + r.val, by omega⟩)) := by
  have h : out0_9 x0 x1 x2 x3 x4 x5 x6 x7 = k0_pay7 x0 x1 := by
    unfold out0_9
    rw [ld0, ld1]
    exact View.canon_cons_unit_lit' _ _ _ (by decide)
  rw [h]
  exact stored_scales_at x0 x1 i z r

theorem out10_at (b : Fin 2) (h : Fin 8) (k : Fin 128) (t : Fin 512) : out0_10 x0 x1 x2 x3 x4 x5 x6 x7 (ix4 b h k t)
    = (shared x1 x2 x3 x4 x5).q (xrow x0 (fl b t)) (trow x6 b t) (trow x7 b t) h k := by
  have e : out0_10 x0 x1 x2 x3 x4 x5 x6 x7 = k0_pay13 (queryR x0 x1 x2 x3 x4 x6 x7) := by
    unfold out0_10 k0_pay23 k0_pay24
    rw [ld0, ld1, ld2, ld3, ld4, ld6, ld6]
    refine (View.canon_cons_unit_lit' _ _ _ (by decide)).trans ?_
    rfl
  rw [e, rows_last_at]
  exact congrFun (queryR_row x0 x1 x2 x3 x4 x5 x6 x7 b t h) k

/-- The key heads' vector is the body's; the value heads'. -/
theorem pay27_eq : k0_pay27 x0 x1 x2 x3 x4 x5 x6 x7 = keyR x0 x1 x2 x3 x5 x6 x7 := by
  unfold k0_pay27 k0_pay25 k0_pay23 k0_pay24
  rw [ld0, ld1, ld2, ld3, ld4, ld6, ld6]
  rfl
theorem pay26_eq : k0_pay26 x0 x1 x2 x3 x4 x5 x6 x7 = valueR x0 x1 x2 x3 := by
  unfold k0_pay26 k0_pay23 k0_pay24
  rw [ld0, ld1, ld2, ld3]
  rfl

theorem out11_at (b : Fin 2) (h : Fin 4) (t : Fin 512) (k : Fin 128) : out0_11 x0 x1 x2 x3 x4 x5 x6 x7 (ix4 b h t k)
    = codeB ((shared x1 x2 x3 x4 x5).k (xrow x0 (fl b t)) (trow x6 b t) (trow x7 b t) h) k := by
  have e : out0_11 x0 x1 x2 x3 x4 x5 x6 x7 = transpose S2x4x512x128 [0, 2, 1, 3] (codes4 (keyR x0 x1 x2 x3 x5 x6 x7)) transposes_S2x512x4x128_p0_2_1_3_S2x4x512x128 := by
    rw [← pay27_eq x0 x1 x2 x3 x4 x5 x6 x7]
    refine (View.canon_cons_unit_lit' _ _ _ (by decide)).trans ?_
    rfl
  rw [e, heads_first_at, codes4_at, keyR_row x0 x1 x2 x3 x4 x5]

theorem out12_at (b : Fin 2) (h : Fin 4) (t : Fin 512) (k : Fin 128) : out0_12 x0 x1 x2 x3 x4 x5 x6 x7 (ix4 b h t k)
    = codeB ((shared x1 x2 x3 x4 x5).v (xrow x0 (fl b t)) h) k := by
  have e : out0_12 x0 x1 x2 x3 x4 x5 x6 x7 = transpose S2x4x512x128 [0, 2, 1, 3] (codes4 (valueR x0 x1 x2 x3)) transposes_S2x512x4x128_p0_2_1_3_S2x4x512x128 := by
    rw [← pay26_eq x0 x1 x2 x3 x4 x5 x6 x7]
    refine (View.canon_cons_unit_lit' _ _ _ (by decide)).trans ?_
    rfl
  rw [e, heads_first_at, codes4_at, valueR_row x0 x1 x2 x3 x4 x5]

theorem out13_at (b : Fin 2) (t : Fin 512) (h : Fin 4) (k : Fin 128) : out0_13 x0 x1 x2 x3 x4 x5 x6 x7 (ix4 b t h k)
    = codeB ((shared x1 x2 x3 x4 x5).k (xrow x0 (fl b t)) (trow x6 b t) (trow x7 b t) h) k := by
  have e : out0_13 x0 x1 x2 x3 x4 x5 x6 x7 = codes4 (keyR x0 x1 x2 x3 x5 x6 x7) := by
    rw [← pay27_eq x0 x1 x2 x3 x4 x5 x6 x7]
    refine (View.canon_cons_unit_lit' _ _ _ (by decide)).trans ?_
    rfl
  rw [e, codes4_at, keyR_row x0 x1 x2 x3 x4 x5]

theorem out14_at (b : Fin 2) (t : Fin 512) (h : Fin 4) (k : Fin 128) : out0_14 x0 x1 x2 x3 x4 x5 x6 x7 (ix4 b t h k)
    = codeB ((shared x1 x2 x3 x4 x5).v (xrow x0 (fl b t)) h) k := by
  have e : out0_14 x0 x1 x2 x3 x4 x5 x6 x7 = codes4 (valueR x0 x1 x2 x3) := by
    rw [← pay26_eq x0 x1 x2 x3 x4 x5 x6 x7]
    refine (View.canon_cons_unit_lit' _ _ _ (by decide)).trans ?_
    rfl
  rw [e, codes4_at, valueR_row x0 x1 x2 x3 x4 x5]

theorem out15_at (b : Fin 2) (t : Fin 512) (h : Fin 4) : out0_15 x0 x1 x2 x3 x4 x5 x6 x7 (ix3 b t h)
    = scale topI ((shared x1 x2 x3 x4 x5).k (xrow x0 (fl b t)) (trow x6 b t) (trow x7 b t) h) := by
  have e : out0_15 x0 x1 x2 x3 x4 x5 x6 x7 = shapeCast S2x512x4 (scale4 (keyR x0 x1 x2 x3 x5 x6 x7)) shapeCasts_S2x512x4x1_S2x512x4 := by
    rw [← pay27_eq x0 x1 x2 x3 x4 x5 x6 x7]
    refine (View.canon_cons_unit_lit' _ _ _ (by decide)).trans ?_
    rfl
  rw [e, scales_at, scale4_at, keyR_row x0 x1 x2 x3 x4 x5]

theorem out16_at (b : Fin 2) (t : Fin 512) (h : Fin 4) : out0_16 x0 x1 x2 x3 x4 x5 x6 x7 (ix3 b t h)
    = scale topI ((shared x1 x2 x3 x4 x5).v (xrow x0 (fl b t)) h) := by
  have e : out0_16 x0 x1 x2 x3 x4 x5 x6 x7 = shapeCast S2x512x4 (scale4 (valueR x0 x1 x2 x3)) shapeCasts_S2x512x4x1_S2x512x4 := by
    rw [← pay26_eq x0 x1 x2 x3 x4 x5 x6 x7]
    refine (View.canon_cons_unit_lit' _ _ _ (by decide)).trans ?_
    rfl
  rw [e, scales_at, scale4_at, valueR_row x0 x1 x2 x3 x4 x5]

end Block

variable (m : (ℓ : Loc nD τ sig) → Buf (Elt Ideal) ℓ) (c : Dev nD)

/-- The arguments as launched. -/
def args : InArgs where
  x := m ((c : Thread nD τ).loc main_arg0)
  P :=
    { gin := fun k => (m ((c : Thread nD τ).loc main_arg1) : Vec Ideal S5376 .f32) (ix1 k)
      w := fun k j => (m ((c : Thread nD τ).loc main_arg2) : Vec Ideal S5376x2048 .fp8e4m3) (ix2 k j)
      s := fun j => (m ((c : Thread nD τ).loc main_arg3) : Vec Ideal S2048 .f32) (ix1 j)
      gq := fun k => (m ((c : Thread nD τ).loc main_arg4) : Vec Ideal S128 .f32) (ix1 k)
      gk := fun k => (m ((c : Thread nD τ).loc main_arg5) : Vec Ideal S128 .f32) (ix1 k) }
  cos := m ((c : Thread nD τ).loc main_arg6)
  sin := m ((c : Thread nD τ).loc main_arg7)

/-- Rows given a leading axis of one; `x` laid flat. -/
theorem lead_5376 (v : Vec Ideal S5376 .f32) (i : S1x5376.Idx) : shapeCast S1x5376 v shapeCasts_S5376_S1x5376 i = v (ix1 (i 1)) := by
  pointwise
theorem lead_2048 (v : Vec Ideal S2048 .f32) (i : S1x2048.Idx) : shapeCast S1x2048 v shapeCasts_S2048_S1x2048 i = v (ix1 (i 1)) := by
  pointwise
theorem lead_128 (v : Vec Ideal S128 .f32) (i : S1x128.Idx) : shapeCast S1x128 v shapeCasts_S128_S1x128 i = v (ix1 (i 1)) := by
  pointwise
theorem flat_rows (v : Vec Ideal S2x512x5376 .bf16) (r : Fin 1024) (k : Fin 5376) :
    shapeCast S1024x5376 v shapeCasts_S2x512x5376_S1024x5376 (ix2 r k) = flatRow v r.val r.isLt k := by
  pointwise

/-- The rows as the body reads them. -/
theorem V_x (r : Fin 1024) (k : Fin 5376) : V m c main_v0 (ix2 r k) = flatRow (args m c).x r.val r.isLt k := by
  have h : V m c main_v0 = shapeCast S1024x5376 (m ((c : Thread nD τ).loc main_arg0)) shapeCasts_S2x512x5376_S1024x5376 := by
    show StableHlo.after hostOps0 _ (Proc.devRef .tc main_v0) = _
    after_results
    rfl
  rw [h]
  exact flat_rows _ r k
theorem V_gin (i : S1x5376.Idx) : V m c main_v1 i = (args m c).P.gin (i 1) := by
  have h : V m c main_v1 = shapeCast S1x5376 (m ((c : Thread nD τ).loc main_arg1)) shapeCasts_S5376_S1x5376 := by
    show StableHlo.after hostOps0 _ (Proc.devRef .tc main_v1) = _
    after_results
    rfl
  rw [h]
  exact lead_5376 _ i
theorem V_s (i : S1x2048.Idx) : V m c main_v2 i = (args m c).P.s (i 1) := by
  have h : V m c main_v2 = shapeCast S1x2048 (m ((c : Thread nD τ).loc main_arg3)) shapeCasts_S2048_S1x2048 := by
    show StableHlo.after hostOps0 _ (Proc.devRef .tc main_v2) = _
    after_results
    rfl
  rw [h]
  exact lead_2048 _ i
theorem V_gq (i : S1x128.Idx) : V m c main_v3 i = (args m c).P.gq (i 1) := by
  have h : V m c main_v3 = shapeCast S1x128 (m ((c : Thread nD τ).loc main_arg4)) shapeCasts_S128_S1x128 := by
    show StableHlo.after hostOps0 _ (Proc.devRef .tc main_v3) = _
    after_results
    rfl
  rw [h]
  exact lead_128 _ i
theorem V_gk (i : S1x128.Idx) : V m c main_v4 i = (args m c).P.gk (i 1) := by
  have h : V m c main_v4 = shapeCast S1x128 (m ((c : Thread nD τ).loc main_arg5)) shapeCasts_S128_S1x128 := by
    show StableHlo.after hostOps0 _ (Proc.devRef .tc main_v4) = _
    after_results
    rfl
  rw [h]
  exact lead_128 _ i

/-- Every block stands at zero. -/
theorem idx_in : ∀ t : Fin grid0.N,
    (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0 ∧ win0_6.index t 2 = 0)
    ∧ (win0_7.index t 0 = 0 ∧ win0_7.index t 1 = 0 ∧ win0_7.index t 2 = 0) := by
  decide +kernel
theorem idx_out : ∀ t : Fin grid0.N,
    (win0_8.index t 0 = 0 ∧ win0_8.index t 1 = 0 ∧ win0_8.index t 2 = 0)
    ∧ (win0_9.index t 0 = 0 ∧ win0_9.index t 1 = 0 ∧ win0_9.index t 2 = 0)
    ∧ (win0_10.index t 0 = 0 ∧ win0_10.index t 1 = 0 ∧ win0_10.index t 2 = 0 ∧ win0_10.index t 3 = 0)
    ∧ (win0_11.index t 0 = 0 ∧ win0_11.index t 1 = 0 ∧ win0_11.index t 2 = 0 ∧ win0_11.index t 3 = 0)
    ∧ (win0_12.index t 0 = 0 ∧ win0_12.index t 1 = 0 ∧ win0_12.index t 2 = 0 ∧ win0_12.index t 3 = 0)
    ∧ (win0_13.index t 0 = 0 ∧ win0_13.index t 1 = 0 ∧ win0_13.index t 2 = 0 ∧ win0_13.index t 3 = 0)
    ∧ (win0_14.index t 0 = 0 ∧ win0_14.index t 1 = 0 ∧ win0_14.index t 2 = 0 ∧ win0_14.index t 3 = 0)
    ∧ (win0_15.index t 0 = 0 ∧ win0_15.index t 1 = 0 ∧ win0_15.index t 2 = 0)
    ∧ (win0_16.index t 0 = 0 ∧ win0_16.index t 1 = 0 ∧ win0_16.index t 2 = 0) := by
  decide +kernel

/-- What the rows share, as the body reads it, is the arguments'. -/
theorem shared_eq (t : Fin cfg0.N) :
    shared (iblk m c 1 t) (iblk m c 2 t) (iblk m c 3 t) (iblk m c 4 t) (iblk m c 5 t) = (args m c).P := by
  obtain ⟨-, ⟨a0, a1⟩, ⟨b0, b1⟩, ⟨c0, c1⟩, ⟨d0, d1⟩, ⟨e0, e1⟩, -⟩ := idx_in t
  ext k
  · show V m c main_v1 ((win0_1.blk t).view.emb (ix2 0 k)) = _
    rw [V_gin]
    refine congrArg (args m c).P.gin (Fin.ext ?_)
    blk_simp [a0, a1]
  · rename_i j
    show V m c main_arg2 ((win0_2.blk t).view.emb (ix2 k j)) = _
    rw [V_main_arg2]
    refine congrArg (m ((c : Thread nD τ).loc main_arg2)) ?_
    blk_ext [b0, b1]
  · show V m c main_v2 ((win0_3.blk t).view.emb (ix2 0 k)) = _
    rw [V_s]
    refine congrArg (args m c).P.s (Fin.ext ?_)
    blk_simp [c0, c1]
  · show V m c main_v3 ((win0_4.blk t).view.emb (ix2 0 k)) = _
    rw [V_gq]
    refine congrArg (args m c).P.gq (Fin.ext ?_)
    blk_simp [d0, d1]
  · show V m c main_v4 ((win0_5.blk t).view.emb (ix2 0 k)) = _
    rw [V_gk]
    refine congrArg (args m c).P.gk (Fin.ext ?_)
    blk_simp [e0, e1]

/-- The rows of `x`, of the cosines and of the sines. -/
theorem x_flat (t : Fin cfg0.N) (r : Fin 1024) : xrow (iblk m c 0 t) r = flatRow (args m c).x r.val r.isLt := by
  obtain ⟨⟨h0, h1⟩, -⟩ := idx_in t
  funext k
  show V m c main_v0 ((win0_0.blk t).view.emb (ix2 r k)) = _
  have e : (win0_0.blk t).view.emb (ix2 r k) = ix2 r k := by blk_ext [h0, h1]
  rw [e]
  exact V_x m c r k
theorem x_row (t : Fin cfg0.N) (b : Fin 2) (s : Fin 512) : xrow (iblk m c 0 t) (fl b s) = (args m c).xr b s :=
  (x_flat m c t (fl b s)).trans (flatRow_mul_add _ b s _)
theorem cos_row (t : Fin cfg0.N) (b : Fin 2) (s : Fin 512) : trow (iblk m c 6 t) b s = (args m c).cr b s := by
  obtain ⟨-, -, -, -, -, -, ⟨h0, h1, h2⟩, -⟩ := idx_in t
  funext k
  show V m c main_arg6 ((win0_6.blk t).view.emb (ix3 b s k)) = _
  rw [V_main_arg6]
  refine congrArg (args m c).cos ?_
  blk_ext [h0, h1, h2]
theorem sin_row (t : Fin cfg0.N) (b : Fin 2) (s : Fin 512) : trow (iblk m c 7 t) b s = (args m c).sr b s := by
  obtain ⟨-, -, -, -, -, -, -, h0, h1, h2⟩ := idx_in t
  funext k
  show V m c main_arg7 ((win0_7.blk t).view.emb (ix3 b s k)) = _
  rw [V_main_arg7]
  refine congrArg (args m c).sin ?_
  blk_ext [h0, h1, h2]

/-- The codes' array. -/
theorem final_codes : (dats m 0 c).arrAt 8 cfg0.N = (args m c).codes := by
  refine (dats m 0 c).arrAt_eq_of_covers 8 _ (by decide +kernel) fun t hf y => ?_
  obtain ⟨⟨h0, h1, h2⟩, -⟩ := idx_out t
  blk_simp
  rw [after0_8]
  have hy : (win0_8.blk t).view.emb y = y := by blk_ext [h0, h1, h2]
  show _ = (args m c).codes ((win0_8.blk t).view.emb y)
  rw [hy]
  obtain ⟨b, s, k, rfl⟩ : ∃ (b : Fin 2) (s : Fin 512) (k : Fin 5376), y = ix3 b s k := ⟨_, _, _, eq_ix3 y⟩
  rw [out8_at, shared_eq, x_row]
  rfl

/-- The scales' array. -/
theorem final_scales : (dats m 0 c).arrAt 9 cfg0.N = (args m c).scales := by
  refine (dats m 0 c).arrAt_eq_of_covers 9 _ (by decide +kernel) fun t hf y => ?_
  obtain ⟨-, ⟨h0, h1, h2⟩, -⟩ := idx_out t
  blk_simp
  rw [after0_9]
  have hy : (win0_9.blk t).view.emb y = y := by blk_ext [h0, h1, h2]
  show _ = (args m c).scales ((win0_9.blk t).view.emb y)
  rw [hy]
  obtain ⟨i, z, r, rfl⟩ : ∃ (i : Fin 8) (z : Fin 1) (r : Fin 128), y = ix3 i z r := ⟨_, _, _, eq_ix3 y⟩
  rw [out9_at, shared_eq, x_flat]
  rfl

/-- The query heads' array. -/
theorem final_qt : (dats m 0 c).arrAt 10 cfg0.N = (args m c).qt := by
  refine (dats m 0 c).arrAt_eq_of_covers 10 _ (by decide +kernel) fun t hf y => ?_
  obtain ⟨-, -, ⟨h0, h1, h2, h3⟩, -⟩ := idx_out t
  blk_simp
  rw [after0_10]
  have hy : (win0_10.blk t).view.emb y = y := by blk_ext [h0, h1, h2, h3]
  show _ = (args m c).qt ((win0_10.blk t).view.emb y)
  rw [hy]
  obtain ⟨b, h, k, s, rfl⟩ : ∃ (b : Fin 2) (h : Fin 8) (k : Fin 128) (s : Fin 512), y = ix4 b h k s := ⟨_, _, _, _, eq_ix4 y⟩
  rw [out10_at, shared_eq, x_row, cos_row, sin_row]
  rfl

/-- The key codes' array, head by head. -/
theorem final_kn : (dats m 0 c).arrAt 11 cfg0.N = (args m c).kn := by
  refine (dats m 0 c).arrAt_eq_of_covers 11 _ (by decide +kernel) fun t hf y => ?_
  obtain ⟨-, -, -, ⟨h0, h1, h2, h3⟩, -⟩ := idx_out t
  blk_simp
  rw [after0_11]
  have hy : (win0_11.blk t).view.emb y = y := by blk_ext [h0, h1, h2, h3]
  show _ = (args m c).kn ((win0_11.blk t).view.emb y)
  rw [hy]
  obtain ⟨b, h, s, k, rfl⟩ : ∃ (b : Fin 2) (h : Fin 4) (s : Fin 512) (k : Fin 128), y = ix4 b h s k := ⟨_, _, _, _, eq_ix4 y⟩
  rw [out11_at, shared_eq, x_row, cos_row, sin_row]
  rfl

/-- The value codes' array, head by head. -/
theorem final_vn : (dats m 0 c).arrAt 12 cfg0.N = (args m c).vn := by
  refine (dats m 0 c).arrAt_eq_of_covers 12 _ (by decide +kernel) fun t hf y => ?_
  obtain ⟨-, -, -, -, ⟨h0, h1, h2, h3⟩, -⟩ := idx_out t
  blk_simp
  rw [after0_12]
  have hy : (win0_12.blk t).view.emb y = y := by blk_ext [h0, h1, h2, h3]
  show _ = (args m c).vn ((win0_12.blk t).view.emb y)
  rw [hy]
  obtain ⟨b, h, s, k, rfl⟩ : ∃ (b : Fin 2) (h : Fin 4) (s : Fin 512) (k : Fin 128), y = ix4 b h s k := ⟨_, _, _, _, eq_ix4 y⟩
  rw [out12_at, shared_eq, x_row]
  rfl

/-- The key codes' array, row by row. -/
theorem final_kc : (dats m 0 c).arrAt 13 cfg0.N = (args m c).kc := by
  refine (dats m 0 c).arrAt_eq_of_covers 13 _ (by decide +kernel) fun t hf y => ?_
  obtain ⟨-, -, -, -, -, ⟨h0, h1, h2, h3⟩, -⟩ := idx_out t
  blk_simp
  rw [after0_13]
  have hy : (win0_13.blk t).view.emb y = y := by blk_ext [h0, h1, h2, h3]
  show _ = (args m c).kc ((win0_13.blk t).view.emb y)
  rw [hy]
  obtain ⟨b, s, h, k, rfl⟩ : ∃ (b : Fin 2) (s : Fin 512) (h : Fin 4) (k : Fin 128), y = ix4 b s h k := ⟨_, _, _, _, eq_ix4 y⟩
  rw [out13_at, shared_eq, x_row, cos_row, sin_row]
  rfl

/-- The value codes' array, row by row. -/
theorem final_vc : (dats m 0 c).arrAt 14 cfg0.N = (args m c).vc := by
  refine (dats m 0 c).arrAt_eq_of_covers 14 _ (by decide +kernel) fun t hf y => ?_
  obtain ⟨-, -, -, -, -, -, ⟨h0, h1, h2, h3⟩, -⟩ := idx_out t
  blk_simp
  rw [after0_14]
  have hy : (win0_14.blk t).view.emb y = y := by blk_ext [h0, h1, h2, h3]
  show _ = (args m c).vc ((win0_14.blk t).view.emb y)
  rw [hy]
  obtain ⟨b, s, h, k, rfl⟩ : ∃ (b : Fin 2) (s : Fin 512) (h : Fin 4) (k : Fin 128), y = ix4 b s h k := ⟨_, _, _, _, eq_ix4 y⟩
  rw [out14_at, shared_eq, x_row]
  rfl

/-- The key scales' array. -/
theorem final_ks : (dats m 0 c).arrAt 15 cfg0.N = (args m c).ks := by
  refine (dats m 0 c).arrAt_eq_of_covers 15 _ (by decide +kernel) fun t hf y => ?_
  obtain ⟨-, -, -, -, -, -, -, ⟨h0, h1, h2⟩, -⟩ := idx_out t
  blk_simp
  rw [after0_15]
  have hy : (win0_15.blk t).view.emb y = y := by blk_ext [h0, h1, h2]
  show _ = (args m c).ks ((win0_15.blk t).view.emb y)
  rw [hy]
  obtain ⟨b, s, h, rfl⟩ : ∃ (b : Fin 2) (s : Fin 512) (h : Fin 4), y = ix3 b s h := ⟨_, _, _, eq_ix3 y⟩
  rw [out15_at, shared_eq, x_row, cos_row, sin_row]
  rfl

/-- The value scales' array. -/
theorem final_vs : (dats m 0 c).arrAt 16 cfg0.N = (args m c).vs := by
  refine (dats m 0 c).arrAt_eq_of_covers 16 _ (by decide +kernel) fun t hf y => ?_
  obtain ⟨-, -, -, -, -, -, -, -, h0, h1, h2⟩ := idx_out t
  blk_simp
  rw [after0_16]
  have hy : (win0_16.blk t).view.emb y = y := by blk_ext [h0, h1, h2]
  show _ = (args m c).vs ((win0_16.blk t).view.emb y)
  rw [hy]
  obtain ⟨b, s, h, rfl⟩ : ∃ (b : Fin 2) (s : Fin 512) (h : Fin 4), y = ix3 b s h := ⟨_, _, _, eq_ix3 y⟩
  rw [out16_at, shared_eq, x_row]
  rfl

/-- The run, read: the nine results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v5_0) = (args m c).codes
      ∧ r.2.mem ((c : Thread nD τ).loc main_v5_1) = (args m c).scales
      ∧ r.2.mem ((c : Thread nD τ).loc main_v5_2) = (args m c).qt
      ∧ r.2.mem ((c : Thread nD τ).loc main_v5_3) = (args m c).kn
      ∧ r.2.mem ((c : Thread nD τ).loc main_v5_4) = (args m c).vn
      ∧ r.2.mem ((c : Thread nD τ).loc main_v5_5) = (args m c).kc
      ∧ r.2.mem ((c : Thread nD τ).loc main_v5_6) = (args m c).vc
      ∧ r.2.mem ((c : Thread nD τ).loc main_v5_7) = (args m c).ks
      ∧ r.2.mem ((c : Thread nD τ).loc main_v5_8) = (args m c).vs
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h c).1 8).trans (final_codes m c),
    ((h c).1 9).trans (final_scales m c),
    ((h c).1 10).trans (final_qt m c),
    ((h c).1 11).trans (final_kn m c),
    ((h c).1 12).trans (final_vn m c),
    ((h c).1 13).trans (final_kc m c),
    ((h c).1 14).trans (final_vc m c),
    ((h c).1 15).trans (final_ks m c),
    ((h c).1 16).trans (final_vs m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c)))⟩) (run_main m ρ)

end Cert.ProjInRefIdeal.Rows

end
-- ==== Proof.InClaim.lean ====
/-
  The value claim of the input projection: the kernel and its reference end at the same nine arrays.
-/
module

public import proofs.«01_k».proof.Defs
public import proofs.«01_k».proof.Proof.InValue
public import proofs.«01_k».proof.Proof.InRefValue

@[expose] public section

noncomputable section

open Idealize.ShloMosaic Idealize.ShloMosaic.TcCoe Idealize.SL.Sem

namespace Cert.Proof

/-- Kernel and reference end at the same functions of the same arguments. -/
theorem algebraic_in : Cert.algebraic_ProjInIdeal_ProjInRefIdeal := by
  intro m ρ m' ρ' _ hagree
  refine ⟨fun c => (Cert.ProjInIdeal.Rows.args m c).codes, fun c => (Cert.ProjInIdeal.Rows.args m c).scales,
    fun c => (Cert.ProjInIdeal.Rows.args m c).qt, fun c => (Cert.ProjInIdeal.Rows.args m c).kn,
    fun c => (Cert.ProjInIdeal.Rows.args m c).vn, fun c => (Cert.ProjInIdeal.Rows.args m c).kc,
    fun c => (Cert.ProjInIdeal.Rows.args m c).vc, fun c => (Cert.ProjInIdeal.Rows.args m c).ks,
    fun c => (Cert.ProjInIdeal.Rows.args m c).vs, Cert.ProjInIdeal.Rows.run m ρ,
    (θ_run _ _ _).mono (fun r h c => ?_) (Cert.ProjInRefIdeal.Rows.run m' ρ')⟩
  obtain ⟨e0, e1, e2, e3, e4, e5, e6, e7⟩ := hagree c
  have e : Cert.ProjInRefIdeal.Rows.args m' c = Cert.ProjInIdeal.Rows.args m c := by
    unfold Cert.ProjInRefIdeal.Rows.args
    rw [e0, e1, e2, e3, e4, e5, e6, e7]
    rfl
  have hr := h c
  rw [e] at hr
  exact hr

end Cert.Proof

end
-- ==== Proof.lean ====
module

public import proofs.«01_k».proof.Proof.Gen.ProjOutRefIdeal.Frame
public import proofs.«01_k».proof.Proof.Gen.ProjOutIdeal.Value
public import proofs.«01_k».proof.Proof.Gen.ProjInRefIdeal.Frame
public import proofs.«01_k».proof.Defs
public import proofs.«01_k».proof.Proof.OutClaim
public import proofs.«01_k».proof.Proof.InClaim
public import proofs.«01_k».proof.Proof.Gen.ProjIn
public import proofs.«01_k».proof.Proof.Gen.ProjIn.Skeleton
public import proofs.«01_k».proof.Proof.Gen.ProjIn.Launch
public import proofs.«01_k».proof.Proof.Gen.ProjIn.Points
public import proofs.«01_k».proof.Proof.Gen.ProjIn.Frame
public import proofs.«01_k».proof.Proof.Gen.ProjInIdeal
public import proofs.«01_k».proof.Proof.Gen.ProjInIdeal.Skeleton
public import proofs.«01_k».proof.Proof.Gen.ProjInIdeal.Launch
public import proofs.«01_k».proof.Proof.Gen.ProjInIdeal.Points
public import proofs.«01_k».proof.Proof.Gen.ProjInIdeal.Frame
public import proofs.«01_k».proof.Proof.Gen.ProjInRefIdeal
public import proofs.«01_k».proof.Proof.Gen.ProjInRefIdeal.Skeleton
public import proofs.«01_k».proof.Proof.Gen.ProjInRefIdeal.Launch
public import proofs.«01_k».proof.Proof.Gen.ProjInRefIdeal.Points
public import proofs.«01_k».proof.Proof.Gen.ProjInRefIdeal.Frame
public import proofs.«01_k».proof.Proof.Gen.ProjOut
public import proofs.«01_k».proof.Proof.Gen.ProjOut.Skeleton
public import proofs.«01_k».proof.Proof.Gen.ProjOut.Launch
public import proofs.«01_k».proof.Proof.Gen.ProjOut.Points
public import proofs.«01_k».proof.Proof.Gen.ProjOut.Frame
public import proofs.«01_k».proof.Proof.Gen.ProjOutIdeal
public import proofs.«01_k».proof.Proof.Gen.ProjOutIdeal.Skeleton
public import proofs.«01_k».proof.Proof.Gen.ProjOutIdeal.Launch
public import proofs.«01_k».proof.Proof.Gen.ProjOutIdeal.Points
public import proofs.«01_k».proof.Proof.Gen.ProjOutIdeal.Frame
public import proofs.«01_k».proof.Proof.Gen.ProjOutRefIdeal
public import proofs.«01_k».proof.Proof.Gen.ProjOutRefIdeal.Skeleton
public import proofs.«01_k».proof.Proof.Gen.ProjOutRefIdeal.Launch
public import proofs.«01_k».proof.Proof.Gen.ProjOutRefIdeal.Points
public import proofs.«01_k».proof.Proof.Gen.ProjOutRefIdeal.Frame
public import Idealize.ShloMosaic.Adequacy
public import Idealize.ShloMosaic.Init

@[expose] public section

noncomputable section

namespace Cert.Proof

open Idealize.ShloMosaic Idealize.SL.Sem Cert.ProjIn

theorem claim : Cert.Claim := ⟨Cert.ProjIn.Gen.facts, Cert.ProjInIdeal.Gen.facts, Cert.ProjInRefIdeal.Gen.facts,
  Cert.ProjOut.Gen.facts, Cert.ProjOutIdeal.Gen.facts, Cert.ProjOutRefIdeal.Gen.facts,
  fun m ρ _ => Cert.ProjIn.Gen.frame m ρ, fun m ρ _ => Cert.ProjInIdeal.Gen.frame m ρ,
  fun m ρ _ => Cert.ProjInRefIdeal.Gen.frame m ρ,
  frame_out, frame_out_ideal, frame_out_reference, trivial, algebraic_in, preserves_out, algebraic_out⟩

end Cert.Proof

end
